-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![32768, 1024]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S3x1024x1024 : Shape := ⟨3, ![3, 1024, 1024]⟩
abbrev S6 : Shape := ⟨1, ![6]⟩
abbrev S8 : Shape := ⟨1, ![8]⟩
abbrev S_ : Shape := ⟨0, ![]⟩
abbrev S1 : Shape := ⟨1, ![1]⟩
abbrev S1024x1024 : Shape := ⟨2, ![1024, 1024]⟩
abbrev S1x1024x1024 : Shape := ⟨3, ![1, 1024, 1024]⟩

abbrev nBuf : Space → Nat
  | .hbm => 2
  | .vmem => 3
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .local _ .vmem, ⟨0, _⟩ => ⟨S8192x1024, .f32⟩
  | .local _ .vmem, ⟨1, _⟩ => ⟨S3x1024x1024, .f32⟩
  | .local _ .vmem, ⟨2, _⟩ => ⟨S3x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_18 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_17 : BitVec 32 := 16#32
  let v33 : BitVec 32 := Scalar.muli v2 c16_i32_17
  let v34 : BitVec 32 := Scalar.addi c0_i32_18 v33
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_8 : BitVec 32 := 4#32
  let v20 : BitVec 32 := Scalar.addi v5 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_19 : BitVec 32 := 4#32
  let v35 : BitVec 32 := Scalar.muli v31 c4_i32_19
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v37 : BitVec 32 := Scalar.muli v8 c1_i32_20
  let v38 : BitVec 32 := Scalar.addi v36 v37
  v38.toNat
def k0_dev2 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v39 : BitVec 32 := Scalar.muli v2 c16_i32_22
  let v40 : BitVec 32 := Scalar.addi c0_i32_23 v39
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_24 : BitVec 32 := 4#32
  let v41 : BitVec 32 := Scalar.muli v19 c4_i32_24
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v43 : BitVec 32 := Scalar.muli v8 c1_i32_25
  let v44 : BitVec 32 := Scalar.addi v42 v43
  v44.toNat
def k0_off1 (d0 : Dev nD) (c0_i32_27 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v45 : BitVec 32 := Scalar.addi v5 c0_i32_27
  let c4_i32_28 : BitVec 32 := 4#32
  let c0_i32_29 : BitVec 32 := 0#32
  let v46 : BitVec 1 := Scalar.cmpi .eq c4_i32_28 c0_i32_29
  let c1_i32_30 : BitVec 32 := 1#32
  let v47 : BitVec 32 := Scalar.select v46 c1_i32_30 c4_i32_28
  let v48 : BitVec 32 := Scalar.remsi v45 v47
  let c0_i32_32 : BitVec 32 := 0#32
  let v50 : BitVec 1 := Scalar.cmpi .slt v48 c0_i32_32
  let c0_i32_33 : BitVec 32 := 0#32
  let v51 : BitVec 1 := Scalar.cmpi .slt v47 c0_i32_33
  let v52 : BitVec 1 := Scalar.xori v50 v51
  let c0_i32_31 : BitVec 32 := 0#32
  let v49 : BitVec 1 := Scalar.cmpi .ne v48 c0_i32_31
  let v53 : BitVec 1 := Scalar.andi v52 v49
  let v54 : BitVec 32 := Scalar.addi v48 v47
  let v55 : BitVec 32 := Scalar.select v53 v54 v48
  let c1024_i32 : BitVec 32 := 1024#32
  let v68 : BitVec 32 := Scalar.muli v55 c1024_i32
  let c0_i32_45 : BitVec 32 := 0#32
  ![v68.toNat, 0]
def k0_off2 (d0 : Dev nD) (c0_i32_34 : BitVec 32) : Fin 2 → Nat :=
  let c4096_i32 : BitVec 32 := 4096#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32 : BitVec 32 := 8#32
  let v56 : BitVec 32 := Scalar.addi v5 c8_i32
  let v57 : BitVec 32 := Scalar.subi v56 c0_i32_34
  let c4_i32_35 : BitVec 32 := 4#32
  let c0_i32_36 : BitVec 32 := 0#32
  let v58 : BitVec 1 := Scalar.cmpi .eq c4_i32_35 c0_i32_36
  let c1_i32_37 : BitVec 32 := 1#32
  let v59 : BitVec 32 := Scalar.select v58 c1_i32_37 c4_i32_35
  let v60 : BitVec 32 := Scalar.remsi v57 v59
  let c0_i32_39 : BitVec 32 := 0#32
  let v62 : BitVec 1 := Scalar.cmpi .slt v60 c0_i32_39
  let c0_i32_40 : BitVec 32 := 0#32
  let v63 : BitVec 1 := Scalar.cmpi .slt v59 c0_i32_40
  let v64 : BitVec 1 := Scalar.xori v62 v63
  let c0_i32_38 : BitVec 32 := 0#32
  let v61 : BitVec 1 := Scalar.cmpi .ne v60 c0_i32_38
  let v65 : BitVec 1 := Scalar.andi v64 v61
  let v66 : BitVec 32 := Scalar.addi v60 v59
  let v67 : BitVec 32 := Scalar.select v65 v66 v60
  let c1024_i32_41 : BitVec 32 := 1024#32
  let v69 : BitVec 32 := Scalar.muli v67 c1024_i32_41
  let v70 : BitVec 32 := Scalar.addi c4096_i32 v69
  let c0_i32_49 : BitVec 32 := 0#32
  ![v70.toNat, 0]
def k0_dev3 (d0 : Dev nD) : Nat :=
  let c0_i32_155 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_154 : BitVec 32 := 16#32
  let v213 : BitVec 32 := Scalar.muli v2 c16_i32_154
  let v214 : BitVec 32 := Scalar.addi c0_i32_155 v213
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_156 : BitVec 32 := 4#32
  let v215 : BitVec 32 := Scalar.muli v19 c4_i32_156
  let v216 : BitVec 32 := Scalar.addi v214 v215
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_157 : BitVec 32 := 1#32
  let v217 : BitVec 32 := Scalar.muli v8 c1_i32_157
  let v218 : BitVec 32 := Scalar.addi v216 v217
  v218.toNat
def k0_dev4 (d0 : Dev nD) : Nat :=
  let c0_i32_166 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_165 : BitVec 32 := 16#32
  let v226 : BitVec 32 := Scalar.muli v2 c16_i32_165
  let v227 : BitVec 32 := Scalar.addi c0_i32_166 v226
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_8 : BitVec 32 := 4#32
  let v20 : BitVec 32 := Scalar.addi v5 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_167 : BitVec 32 := 4#32
  let v228 : BitVec 32 := Scalar.muli v31 c4_i32_167
  let v229 : BitVec 32 := Scalar.addi v227 v228
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_168 : BitVec 32 := 1#32
  let v230 : BitVec 32 := Scalar.muli v8 c1_i32_168
  let v231 : BitVec 32 := Scalar.addi v229 v230
  v231.toNat
def k0_dev5 (d0 : Dev nD) : Nat :=
  let c0_i32_226 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_225 : BitVec 32 := 16#32
  let v285 : BitVec 32 := Scalar.muli v2 c16_i32_225
  let v286 : BitVec 32 := Scalar.addi c0_i32_226 v285
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_227 : BitVec 32 := 4#32
  let v287 : BitVec 32 := Scalar.muli v19 c4_i32_227
  let v288 : BitVec 32 := Scalar.addi v286 v287
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_228 : BitVec 32 := 1#32
  let v289 : BitVec 32 := Scalar.muli v8 c1_i32_228
  let v290 : BitVec 32 := Scalar.addi v288 v289
  v290.toNat
def k0_dev6 (d0 : Dev nD) : Nat :=
  let c0_i32_237 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_236 : BitVec 32 := 16#32
  let v298 : BitVec 32 := Scalar.muli v2 c16_i32_236
  let v299 : BitVec 32 := Scalar.addi c0_i32_237 v298
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_8 : BitVec 32 := 4#32
  let v20 : BitVec 32 := Scalar.addi v5 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_238 : BitVec 32 := 4#32
  let v300 : BitVec 32 := Scalar.muli v31 c4_i32_238
  let v301 : BitVec 32 := Scalar.addi v299 v300
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_239 : BitVec 32 := 1#32
  let v302 : BitVec 32 := Scalar.muli v8 c1_i32_239
  let v303 : BitVec 32 := Scalar.addi v301 v302
  v303.toNat
def k0_dev7 (d0 : Dev nD) : Nat :=
  let c0_i32_297 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_296 : BitVec 32 := 16#32
  let v357 : BitVec 32 := Scalar.muli v2 c16_i32_296
  let v358 : BitVec 32 := Scalar.addi c0_i32_297 v357
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_298 : BitVec 32 := 4#32
  let v359 : BitVec 32 := Scalar.muli v19 c4_i32_298
  let v360 : BitVec 32 := Scalar.addi v358 v359
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_299 : BitVec 32 := 1#32
  let v361 : BitVec 32 := Scalar.muli v8 c1_i32_299
  let v362 : BitVec 32 := Scalar.addi v360 v361
  v362.toNat
def k0_dev8 (d0 : Dev nD) : Nat :=
  let c0_i32_308 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_307 : BitVec 32 := 16#32
  let v370 : BitVec 32 := Scalar.muli v2 c16_i32_307
  let v371 : BitVec 32 := Scalar.addi c0_i32_308 v370
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_8 : BitVec 32 := 4#32
  let v20 : BitVec 32 := Scalar.addi v5 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_309 : BitVec 32 := 4#32
  let v372 : BitVec 32 := Scalar.muli v31 c4_i32_309
  let v373 : BitVec 32 := Scalar.addi v371 v372
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_310 : BitVec 32 := 1#32
  let v374 : BitVec 32 := Scalar.muli v8 c1_i32_310
  let v375 : BitVec 32 := Scalar.addi v373 v374
  v375.toNat
def k0_dev9 (d0 : Dev nD) : Nat :=
  let c0_i32_367 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_366 : BitVec 32 := 16#32
  let v429 : BitVec 32 := Scalar.muli v2 c16_i32_366
  let v430 : BitVec 32 := Scalar.addi c0_i32_367 v429
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_368 : BitVec 32 := 4#32
  let v431 : BitVec 32 := Scalar.muli v19 c4_i32_368
  let v432 : BitVec 32 := Scalar.addi v430 v431
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_369 : BitVec 32 := 1#32
  let v433 : BitVec 32 := Scalar.muli v8 c1_i32_369
  let v434 : BitVec 32 := Scalar.addi v432 v433
  v434.toNat
def k0_dev10 (d0 : Dev nD) : Nat :=
  let c0_i32_377 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_376 : BitVec 32 := 16#32
  let v441 : BitVec 32 := Scalar.muli v2 c16_i32_376
  let v442 : BitVec 32 := Scalar.addi c0_i32_377 v441
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_8 : BitVec 32 := 4#32
  let v20 : BitVec 32 := Scalar.addi v5 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_378 : BitVec 32 := 4#32
  let v443 : BitVec 32 := Scalar.muli v31 c4_i32_378
  let v444 : BitVec 32 := Scalar.addi v442 v443
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_379 : BitVec 32 := 1#32
  let v445 : BitVec 32 := Scalar.muli v8 c1_i32_379
  let v446 : BitVec 32 := Scalar.addi v444 v445
  v446.toNat
def k0_dev11 (d0 : Dev nD) : Nat :=
  let c0_i32_421 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_420 : BitVec 32 := 16#32
  let v481 : BitVec 32 := Scalar.muli v2 c16_i32_420
  let v482 : BitVec 32 := Scalar.addi c0_i32_421 v481
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_422 : BitVec 32 := 4#32
  let v483 : BitVec 32 := Scalar.muli v19 c4_i32_422
  let v484 : BitVec 32 := Scalar.addi v482 v483
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_423 : BitVec 32 := 1#32
  let v485 : BitVec 32 := Scalar.muli v8 c1_i32_423
  let v486 : BitVec 32 := Scalar.addi v484 v485
  v486.toNat
def k0_dev12 (d0 : Dev nD) : Nat :=
  let c0_i32_431 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_430 : BitVec 32 := 16#32
  let v493 : BitVec 32 := Scalar.muli v2 c16_i32_430
  let v494 : BitVec 32 := Scalar.addi c0_i32_431 v493
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_8 : BitVec 32 := 4#32
  let v20 : BitVec 32 := Scalar.addi v5 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_432 : BitVec 32 := 4#32
  let v495 : BitVec 32 := Scalar.muli v31 c4_i32_432
  let v496 : BitVec 32 := Scalar.addi v494 v495
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_433 : BitVec 32 := 1#32
  let v497 : BitVec 32 := Scalar.muli v8 c1_i32_433
  let v498 : BitVec 32 := Scalar.addi v496 v497
  v498.toNat
def k0_dev13 (d0 : Dev nD) : Nat :=
  let c0_i32_475 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_474 : BitVec 32 := 16#32
  let v533 : BitVec 32 := Scalar.muli v2 c16_i32_474
  let v534 : BitVec 32 := Scalar.addi c0_i32_475 v533
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_476 : BitVec 32 := 4#32
  let v535 : BitVec 32 := Scalar.muli v19 c4_i32_476
  let v536 : BitVec 32 := Scalar.addi v534 v535
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_477 : BitVec 32 := 1#32
  let v537 : BitVec 32 := Scalar.muli v8 c1_i32_477
  let v538 : BitVec 32 := Scalar.addi v536 v537
  v538.toNat
def k0_dev14 (d0 : Dev nD) : Nat :=
  let c0_i32_485 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_484 : BitVec 32 := 16#32
  let v545 : BitVec 32 := Scalar.muli v2 c16_i32_484
  let v546 : BitVec 32 := Scalar.addi c0_i32_485 v545
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_8 : BitVec 32 := 4#32
  let v20 : BitVec 32 := Scalar.addi v5 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_486 : BitVec 32 := 4#32
  let v547 : BitVec 32 := Scalar.muli v31 c4_i32_486
  let v548 : BitVec 32 := Scalar.addi v546 v547
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_487 : BitVec 32 := 1#32
  let v549 : BitVec 32 := Scalar.muli v8 c1_i32_487
  let v550 : BitVec 32 := Scalar.addi v548 v549
  v550.toNat
-- ==== ReferenceIdeal.lean ====
abbrev S32768x1024 : Shape := ⟨2, ![32768, 1024]⟩
abbrev S4x8192x1024 : Shape := ⟨3, ![4, 8192, 1024]⟩
abbrev S_ : Shape := ⟨0, ![]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x8192x1024, .f32⟩
  | .hbm, ⟨2, _⟩ => ⟨S_, .f32⟩
  | .hbm, ⟨3, _⟩ => ⟨S8192x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Common.lean ====
/-
# The ring all-reduce: geometry, contents, protocol

The kernel runs on a mesh of 2 x 4 x 4 devices and sums an array over the second axis, `y`. The device of coordinates
(x, y, z) has the number 16 x + 4 y + z; it exchanges only with the two devices of the same x and z whose y differs by
one, modulo four (`nxt`, `prv`).

The array on a device is cut in two halves of four chunks of 1024 rows. The first half travels in the direction of
increasing `y` (`false` below), the second in the direction of decreasing `y` (`true`). Per direction there are six
steps: three reduce steps, where a chunk is sent to the neighbour's landing slot and the neighbour adds it to its own,
and three gather steps, where a finished chunk is sent straight into the neighbour's working slot.

The protocol, per semaphore:
* the barrier semaphore of a device: its two neighbours signal one unit each, it waits for both. The neighbour to which
  the device sends in direction `δ` hands over, with its signal, the three landing slots of that direction;
* the send semaphore (δ, s): the device's own copy of step `s` in direction `δ`; it hands back the source slot;
* the receive semaphore (δ, s): the copy of step `s` of the neighbour behind in direction `δ`; it hands over the landing
  slot holding the neighbour's running sum, and for s = 1, 2, 3 also the neighbour's working slot of the OTHER direction that
  its step s - 1 has finished reading, which the device overwrites in its own step s + 2 of that direction;
* the eight local-copy semaphores: used twice by the device itself, first for a chunk of the input copied to a working
  slot, then for a working slot copied to the result.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Memref
public import Idealize.ShloMosaic.Lib.VecWindow
public import Idealize.ShloMosaic.Lib.Tactic

@[expose] public section

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the launch library's copy and the protocol's, with duties named by `Bool` -/

/-- The part of the algebra that belongs to this kernel: rounds on the semaphore cells, duties named by `Bool`. -/
abbrev UB : Type := URounds (GSem nD τ sig) Bool
/-- The launch's part and the kernel's part side by side. -/
abbrev UU : Type := UR sig nD τ × UB

local notation "𝕄" => MT nD τ sig Unit (Elt F) ℕ UU ℕ

/-- Where the launch's part sits. -/
abbrev EP : Emb (UR sig nD τ) (MT nD τ sig Unit (Elt F) ℕ UU ℕ) := embL
/-- Where the kernel's part sits. -/
abbrev ER : Emb UB (MT nD τ sig Unit (Elt F) ℕ UU ℕ) := embR

/-- The contents of a chunk. -/
abbrev Chunk (F : FTy → Type) : Type := FVec F S1024x1024 .f32

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
/-- The device one further along `y`. -/
def nxt (c : Dev nD) : Dev nD := ⟨c.val / 16 * 16 + (c.val / 4 + 1) % 4 * 4 + c.val % 4, by revert c; decide⟩
set_option backward.proofsInPublic true in
/-- The device one back along `y`. -/
def prv (c : Dev nD) : Dev nD := ⟨c.val / 16 * 16 + (c.val / 4 + 3) % 4 * 4 + c.val % 4, by revert c; decide⟩

/-- Whom a device sends to in a direction. -/
def tgt : Bool → Dev nD → Dev nD
  | false, c => nxt c
  | true, c => prv c
/-- From whom it receives. -/
def src : Bool → Dev nD → Dev nD
  | false, c => prv c
  | true, c => nxt c

/-- The device that sends to the device I send to is this one. -/
theorem src_tgt (δ : Bool) (c : Dev nD) : src δ (tgt δ c) = c := by revert δ c; decide
/-- The device that my sender sends to is this one. -/
theorem tgt_src (δ : Bool) (c : Dev nD) : tgt δ (src δ c) = c := by revert δ c; decide
/-- In the other direction one sends to whom one receives from in this. -/
theorem tgt_not (δ : Bool) (c : Dev nD) : tgt (!δ) c = src δ c := by cases δ <;> rfl

/-- Turning a direction's ring by one. -/
def ring (δ : Bool) : Dev nD ≃ Dev nD := ⟨tgt δ, src δ, src_tgt δ, tgt_src δ⟩

/-- The device that the program's first address names: the neighbour in one of the two directions. -/
theorem dev1_eq (c : Dev nD) : (⟨k0_dev1 c, k0_dev1_lt c⟩ : Dev nD) = tgt true c := by revert c; decide +kernel
/-- The device that the program's second address names: the neighbour in one of the two directions. -/
theorem dev2_eq (c : Dev nD) : (⟨k0_dev2 c, k0_dev2_lt c⟩ : Dev nD) = tgt false c := by revert c; decide +kernel
/-- The device that the program's third address names: the neighbour in one of the two directions. -/
theorem dev3_eq (c : Dev nD) : (⟨k0_dev3 c, k0_dev3_lt c⟩ : Dev nD) = tgt false c := by revert c; decide +kernel
/-- The device that the program's fourth address names: the neighbour in one of the two directions. -/
theorem dev4_eq (c : Dev nD) : (⟨k0_dev4 c, k0_dev4_lt c⟩ : Dev nD) = tgt true c := by revert c; decide +kernel
/-- The device that the program's fifth address names: the neighbour in one of the two directions. -/
theorem dev5_eq (c : Dev nD) : (⟨k0_dev5 c, k0_dev5_lt c⟩ : Dev nD) = tgt false c := by revert c; decide +kernel
/-- The device that the program's sixth address names: the neighbour in one of the two directions. -/
theorem dev6_eq (c : Dev nD) : (⟨k0_dev6 c, k0_dev6_lt c⟩ : Dev nD) = tgt true c := by revert c; decide +kernel
/-- The device that the program's seventh address names: the neighbour in one of the two directions. -/
theorem dev7_eq (c : Dev nD) : (⟨k0_dev7 c, k0_dev7_lt c⟩ : Dev nD) = tgt false c := by revert c; decide +kernel
/-- The device that the program's eighth address names: the neighbour in one of the two directions. -/
theorem dev8_eq (c : Dev nD) : (⟨k0_dev8 c, k0_dev8_lt c⟩ : Dev nD) = tgt true c := by revert c; decide +kernel
/-- The device that the program's ninth address names: the neighbour in one of the two directions. -/
theorem dev9_eq (c : Dev nD) : (⟨k0_dev9 c, k0_dev9_lt c⟩ : Dev nD) = tgt false c := by revert c; decide +kernel
/-- The device that the program's tenth address names: the neighbour in one of the two directions. -/
theorem dev10_eq (c : Dev nD) : (⟨k0_dev10 c, k0_dev10_lt c⟩ : Dev nD) = tgt true c := by revert c; decide +kernel
/-- The device that the program's eleventh address names: the neighbour in one of the two directions. -/
theorem dev11_eq (c : Dev nD) : (⟨k0_dev11 c, k0_dev11_lt c⟩ : Dev nD) = tgt false c := by revert c; decide +kernel
/-- The device that the program's twelfth address names: the neighbour in one of the two directions. -/
theorem dev12_eq (c : Dev nD) : (⟨k0_dev12 c, k0_dev12_lt c⟩ : Dev nD) = tgt true c := by revert c; decide +kernel
/-- The device that the program's thirteenth address names: the neighbour in one of the two directions. -/
theorem dev13_eq (c : Dev nD) : (⟨k0_dev13 c, k0_dev13_lt c⟩ : Dev nD) = tgt false c := by revert c; decide +kernel
/-- The device that the program's fourteenth address names: the neighbour in one of the two directions. -/
theorem dev14_eq (c : Dev nD) : (⟨k0_dev14 c, k0_dev14_lt c⟩ : Dev nD) = tgt true c := by revert c; decide +kernel

/-! ## The memrefs -/

/-- The input array on a device, whole. -/
abbrev xW : Memref sig .tc .hbm S8192x1024 .f32 := Memref.whole main_arg0
/-- The result array on a device, whole. -/
abbrev outW : Memref sig .tc .hbm S8192x1024 .f32 := Memref.whole main_v1
/-- The working buffer, whole. -/
abbrev workW : Memref sig .tc .vmem S8192x1024 .f32 := Memref.whole cc0_scratch0
/-- The landing buffer of a direction. -/
def tmpW : Bool → Memref sig .tc .vmem S3x1024x1024 .f32
  | false => Memref.whole cc0_scratch1
  | true => Memref.whole cc0_scratch2

/-- The first row of slot `j` of a direction's half of the working buffer. -/
abbrev row (δ : Bool) (j : Fin 4) : ℕ := (cond δ 4096 0) + 1024 * j.val

/-- A working slot lies inside the working buffer. -/
theorem slot_inb (δ : Bool) (j : Fin 4) : ∀ a, (![row δ j, 0] : Fin 2 → ℕ) a + S1024x1024.size a ≤ S8192x1024.size a := by
  revert δ j; decide
/-- The rows of working slot `j` of a direction. -/
abbrev slotR (δ : Bool) (j : Fin 4) : Rect S8192x1024 := Rect.unit (s := S8192x1024) ![row δ j, 0] S1024x1024.size (slot_inb δ j)
/-- Slot `j` of a direction's half of the working buffer. -/
abbrev slotM (δ : Bool) (j : Fin 4) : Memref sig .tc .vmem S1024x1024 .f32 := workW.slice (slotR δ j) (fun _ => rfl)

/-- A landing slot lies inside its landing buffer. -/
theorem tmp_inb (s : Fin 3) : ∀ a, (![s.val, 0, 0] : Fin 3 → ℕ) a + S1x1024x1024.size a ≤ S3x1024x1024.size a := by
  revert s; decide
/-- The place of landing slot `s` in its buffer. -/
abbrev tmpR (s : Fin 3) : Rect S3x1024x1024 := Rect.unit (s := S3x1024x1024) ![s.val, 0, 0] S1x1024x1024.size (tmp_inb s)
/-- Landing slot `s` of a direction. -/
abbrev tmpM (δ : Bool) (s : Fin 3) : Memref sig .tc .vmem S1024x1024 .f32 :=
  ((tmpW δ).slice (tmpR s) (fun _ => rfl)).squeeze S1024x1024 squeezes_S1x1024x1024_S1024x1024

/-- The first row and column, in the device's array, of the chunk that slot `j` of a direction holds. -/
def chunkOff (c : Dev nD) : Bool → Fin 4 → Fin 2 → ℕ
  | false, j => k0_off1 c (BitVec.ofNat 32 j.val)
  | true, j => k0_off2 c (BitVec.ofNat 32 j.val)
/-- A chunk lies inside the array. -/
theorem chunk_inb (c : Dev nD) (δ : Bool) (j : Fin 4) : ∀ a, chunkOff c δ j a + S1024x1024.size a ≤ S8192x1024.size a :=
  match δ with
  | false => k0_off1_inb c j
  | true => k0_off2_inb c j
/-- The rows of chunk `j` of a direction in the arrays of device `c`. -/
abbrev chunkR (c : Dev nD) (δ : Bool) (j : Fin 4) : Rect S8192x1024 :=
  Rect.unit (s := S8192x1024) (chunkOff c δ j) S1024x1024.size (chunk_inb c δ j)

/-- Chunk `j` of a direction, of the input and of the result. -/
abbrev xM (c : Dev nD) (δ : Bool) (j : Fin 4) : Memref sig .tc .hbm S1024x1024 .f32 := xW.slice (chunkR c δ j) (fun _ => rfl)
/-- Chunk `j` of a direction of the result. -/
abbrev outM (c : Dev nD) (δ : Bool) (j : Fin 4) : Memref sig .tc .hbm S1024x1024 .f32 := outW.slice (chunkR c δ j) (fun _ => rfl)

/-- The slot a step reads. -/
def srcSlot : Fin 6 → Fin 4
  | 0 => 0 | 1 => 3 | 2 => 2 | 3 => 1 | 4 => 0 | 5 => 3
/-- The slot the sum of a reduce step goes to. -/
def addSlot : Fin 3 → Fin 4
  | 0 => 3 | 1 => 2 | 2 => 1

/-- Where a step's copy lands on the receiver. -/
def dstM (δ : Bool) : Fin 6 → Memref sig .tc .vmem S1024x1024 .f32
  | 0 => tmpM δ 0 | 1 => tmpM δ 1 | 2 => tmpM δ 2
  | 3 => slotM δ 0 | 4 => slotM δ 3 | 5 => slotM δ 2

/-! ## Contents -/

/-- Chunk `j` of a direction of a device's input. -/
def x0 (δ : Bool) (j : Fin 4) (c : Dev nD) : Chunk F := (xM c δ j).view.read (Elt F) (m ((c : Thread nD τ).loc main_arg0))

/-- The running sum: `acc s` is what step `s` sends; `acc 3` is a finished chunk. -/
def acc (δ : Bool) : ℕ → Dev nD → Chunk F
  | 0, c => x0 m δ 0 c
  | 1, c => addf (x0 m δ 3 c) (acc δ 0 (src δ c))
  | 2, c => addf (x0 m δ 2 c) (acc δ 1 (src δ c))
  | 3, c => addf (x0 m δ 1 c) (acc δ 2 (src δ c))
  | n + 4, c => acc δ (n + 3) (src δ c)

/-- The finished chunk in slot `j`. -/
def done (δ : Bool) : Fin 4 → Dev nD → Chunk F
  | 0, c => acc m δ 4 c | 1, c => acc m δ 3 c | 2, c => acc m δ 6 c | 3, c => acc m δ 5 c

end Cert.KernelIdeal.Hand

end
-- ==== Proof.Protocol.lean ====
/-
# The protocol as a schedule of rounds, and its tables

Every semaphore of the kernel is named by `Cl`; `dec` reads the name off a semaphore. The schedule says, per cell and round, which
duties there are, how many units each pays and what it hands over (`payOf`, with contents).
-/
module

public import proofs.«01_k».proof.Proof.Common

@[expose] public section

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores by name -/

/-- The names: the barrier; the send semaphores; the receive semaphores; the local-copy semaphores. -/
abbrev Cl : Type := Unit ⊕ (Bool × Fin 6) ⊕ (Bool × Fin 6) ⊕ (Bool × Fin 4)
@[match_pattern] abbrev cBar : Cl := .inl ()
@[match_pattern] abbrev cSend (δ : Bool) (s : Fin 6) : Cl := .inr (.inl (δ, s))
@[match_pattern] abbrev cRecv (δ : Bool) (s : Fin 6) : Cl := .inr (.inr (.inl (δ, s)))
@[match_pattern] abbrev cLoc (δ : Bool) (j : Fin 4) : Cl := .inr (.inr (.inr (δ, j)))

/-- The runtime's barrier semaphore of the kernel's collective. -/
abbrev barS : Sem sig := (SemArray.scalar (sig.barrier 0 rfl) : Sems sig S_).sem

/-- The DMA semaphore of a number. -/
abbrev dsem (k : ℕ) (h : k < 32) : DmaSem sig := ⟨k, h⟩

/-- The semaphore of each name. -/
def csem : Cl → SemLoc sig
  | cBar => .reg barS
  | cSend δ s => .dma (dsem (cond δ 12 0 + s.val) (by cases δ <;> (have := s.isLt; simp only [cond_true, cond_false]; omega)))
  | cRecv δ s => .dma (dsem (cond δ 18 6 + s.val) (by cases δ <;> (have := s.isLt; simp only [cond_true, cond_false]; omega)))
  | cLoc δ j => .dma (dsem (cond δ 25 24 + 2 * j.val) (by cases δ <;> (have := j.isLt; simp only [cond_true, cond_false]; omega)))

/-- The name of a semaphore. -/
def dec : SemLoc sig → Option Cl
  | .reg s => if s = barS then some cBar else none
  | .dma q =>
    if q.val < 6 then some (cSend false (Fin.ofNat 6 q.val))
    else if q.val < 12 then some (cRecv false (Fin.ofNat 6 (q.val - 6)))
    else if q.val < 18 then some (cSend true (Fin.ofNat 6 (q.val - 12)))
    else if q.val < 24 then some (cRecv true (Fin.ofNat 6 (q.val - 18)))
    else some (cLoc (decide (q.val % 2 = 1)) (Fin.ofNat 4 ((q.val - 24) / 2)))

/-- The name read off a named semaphore is that name. -/
theorem dec_csem (k : Cl) : dec (csem k) = some k := by
  rcases k with ⟨⟩ | ⟨δ, s⟩ | ⟨δ, s⟩ | ⟨δ, j⟩
  · rfl
  · cases δ <;> fin_cases s <;> rfl
  · cases δ <;> fin_cases s <;> rfl
  · cases δ <;> fin_cases j <;> rfl
/-- Different names are different semaphores. -/
theorem csem_injective : Function.Injective csem := fun k k' h => by
  have := congrArg dec h; rw [dec_csem, dec_csem] at this; exact Option.some.inj this

/-- The cell of a name on a device. -/
abbrev cell (c : Dev nD) (k : Cl) : GSem nD τ sig := ((c : Thread nD τ), csem k)

/-- Different devices or names are different cells. -/
theorem cell_injective : Function.Injective (fun ck : Dev nD × Cl => cell ck.1 ck.2) := by
  rintro ⟨c, k⟩ ⟨c', k'⟩ h
  have h1 : c = c' := congrArg (fun g : GSem nD τ sig => g.1.1) h
  have h2 : k = k' := csem_injective (congrArg Prod.snd h)
  subst h1 h2; rfl
/-- Cells of different names differ. -/
theorem cell_ne {c c' : Dev nD} {k k' : Cl} (h : k ≠ k') : cell c k ≠ cell c' k' :=
  fun h' => h (csem_injective (congrArg Prod.snd h'))
/-- Cells of one name are equal exactly on one device. -/
theorem cell_eq_iff {c c' : Dev nD} {k : Cl} : Iff (cell c k = cell c' k) (c = c') :=
  ⟨fun h => congrArg (fun g : GSem nD τ sig => g.1.1) h, fun h => h ▸ rfl⟩

/-- The units of one copy: all copy a chunk. -/
@[irreducible] def N : ℕ := (slotM false 0).view.dmaCredit
/-- A copy pays at least one unit. -/
theorem N_pos : 0 < N := by unfold N; exact View.dmaCredit_pos _ (by decide)
/-- A copy of a working slot pays the units of one chunk. -/
theorem credit_slot (δ : Bool) (j : Fin 4) : (slotM δ j).view.dmaCredit = N := by unfold N; rfl
/-- So does a copy of a landing slot, -/
theorem credit_tmp (δ : Bool) (s : Fin 3) : (tmpM δ s).view.dmaCredit = N := by unfold N; rfl
/-- Of a chunk of the input, -/
theorem credit_x (c : Dev nD) (δ : Bool) (j : Fin 4) : (xM c δ j).view.dmaCredit = N := by unfold N; rfl
/-- Of a chunk of the result, -/
theorem credit_out (c : Dev nD) (δ : Bool) (j : Fin 4) : (outM c δ j).view.dmaCredit = N := by unfold N; rfl
/-- And a copy to the place where a step lands. -/
theorem credit_dst (δ : Bool) (s : Fin 6) : (dstM δ s).view.dmaCredit = N :=
  match s with
  | 0 => credit_tmp δ 0 | 1 => credit_tmp δ 1 | 2 => credit_tmp δ 2
  | 3 => credit_slot δ 0 | 4 => credit_slot δ 3 | 5 => credit_slot δ 2

/-! ## What is handed over -/

/-- A memref of a chunk owned at contents. -/
abbrev own {sp : Space} (c : Dev nD) (M : Memref sig .tc sp S1024x1024 .f32) (X : Chunk F) : sProp 𝕄 :=
  owns (Ix := Unit) (Name := ℕ) (U := UU) (Lvl := ℕ) (c : Thread nD τ) M fullShare X
/-- A memref of a chunk owned at any contents. -/
abbrev any {sp : Space} (c : Dev nD) (M : Memref sig .tc sp S1024x1024 .f32) : sProp 𝕄 := iprop(∃ X, own (F := F) c M X)

/-- The three landing slots of a direction. -/
def landing (δ : Bool) (c : Dev nD) : sProp 𝕄 := iprop(any (F := F) c (tmpM δ 0) ∗ any (F := F) c (tmpM δ 1) ∗ any (F := F) c (tmpM δ 2))

/-- What goes to the receiver beside the chunk: the sender's slot of the other direction that its previous step has read. -/
def rider (δ : Bool) : Fin 6 → Dev nD → sProp 𝕄
  | 1, d => any (F := F) d (slotM (!δ) 0)
  | 2, d => any (F := F) d (slotM (!δ) 3)
  | 3, d => any (F := F) d (slotM (!δ) 2)
  | _, _ => iprop(emp)

/-- What a duty of cell `k` of device `c` hands over at round `r`. -/
def payOf (k : Cl) (c : Dev nD) (r : ℕ) (d : Bool) : sProp 𝕄 := match k with
  | cBar => landing (F := F) d (tgt d c)
  | cSend δ s => own c (slotM δ (srcSlot s)) (acc m δ s.val c)
  | cRecv δ s => iprop(own c (dstM δ s) (acc m δ s.val (src δ c)) ∗ rider (F := F) δ s (src δ c))
  | cLoc δ j => if r = 0 then iprop(own c (slotM δ j) (x0 m δ j c) ∗ own c (xM c δ j) (x0 m δ j c))
      else iprop(own c (outM c δ j) (done m δ j c) ∗ own c (slotM δ j) (done m δ j c))

/-- The duties of a cell in a round: two for the barrier, one for a copy, none after the last round. -/
def dutiesOf (k : Cl) (r : ℕ) : Finset Bool := match k with
  | cBar => if r = 0 then Finset.univ else ∅
  | cSend _ _ => if r = 0 then {false} else ∅
  | cRecv _ _ => if r = 0 then {false} else ∅
  | cLoc _ _ => if r < 2 then {false} else ∅

/-- What a duty pays: one unit at the barrier, else those of one chunk. -/
def amountOf : Option Cl → ℕ
  | some cBar => 1
  | _ => N
/-- Every duty pays something. -/
theorem amountOf_pos : ∀ k, 0 < amountOf k
  | some cBar => Nat.one_pos
  | some (.inr _) => N_pos
  | none => N_pos

/-- What the barrier hands over can be kept in an invariant; -/
instance landing_storable (δ : Bool) (c : Dev nD) : BI.Storable (upEmb : UEmb _ 𝕄) (landing (F := F) δ c) := by unfold landing; infer_instance
/-- So can what a receive hands over beside the chunk, -/
instance rider_storable (δ : Bool) (s : Fin 6) (c : Dev nD) : BI.Storable (upEmb : UEmb _ 𝕄) (rider (F := F) δ s c) := by
  unfold rider; split <;> infer_instance
/-- And all that any duty hands over. -/
instance payOf_storable (k : Cl) (c : Dev nD) (r : ℕ) (d : Bool) : BI.Storable (upEmb : UEmb _ 𝕄) (payOf m k c r d) := by
  unfold payOf; split
  · infer_instance
  · infer_instance
  · infer_instance
  · split <;> infer_instance

/-- The schedule: duties, amounts and what they hand over, at every cell. -/
def sched : Rounds.Schedule (GSem nD τ sig) Bool 𝕄 where
  duties g r := if g.1.2 = .tc then (match dec g.2 with | some k => dutiesOf k r | none => ∅) else ∅
  unitless _ := False
  amount g _ _ := amountOf (dec g.2)
  payload g r d := match dec g.2 with
    | some k => payOf m k g.1.1 r d
    | none => iprop(emp)
  amount_pos g _ _ _ := amountOf_pos _

/-- What the schedule hands over can be kept in an invariant. -/
instance sched_payload_storable (g : GSem nD τ sig) (r : ℕ) (d : Bool) :
    BI.Storable (upEmb : UEmb _ 𝕄) ((sched (F := F) m).payload g r d) := by
  show BI.Storable upEmb (match dec g.2 with
    | some k => payOf m k g.1.1 r d
    | none => iprop(emp))
  split <;> infer_instance

section Tables
variable (c : Dev nD) (k : Cl)

/-- The schedule at a named cell: its duties, -/
theorem duties_cell (r : ℕ) : (sched (F := F) m).duties (cell c k) r = dutiesOf k r := by
  dsimp only [sched]; rw [if_pos rfl, dec_csem]
/-- Their amounts, -/
theorem amount_cell (r : ℕ) (d : Bool) : (sched (F := F) m).amount (cell c k) r d = amountOf (some k) := by
  dsimp only [sched]; rw [dec_csem]
/-- And what they hand over. -/
theorem payload_cell (r : ℕ) (d : Bool) : (sched (F := F) m).payload (cell c k) r d = payOf m k c r d := by
  dsimp only [sched]; rw [dec_csem]

/-- The rounds a cell of one duty goes through. -/
def rounds : Cl → ℕ
  | cLoc _ _ => 2
  | _ => 1

/-- After its last round a cell has no duty; -/
theorem dutiesOf_later (r : ℕ) (hr : rounds k ≤ r) : dutiesOf k r = ∅ := by
  rcases k with _ | ⟨δ, s⟩ | ⟨δ, s⟩ | ⟨δ, j⟩ <;> simp only [rounds] at hr <;> simp only [dutiesOf] <;> exact if_neg (by omega)
/-- Nor does the schedule give it one. -/
theorem duties_later : ∀ r, rounds k ≤ r → (sched (F := F) m).duties (cell c k) r = ∅ :=
  fun r hr => by rw [duties_cell]; exact dutiesOf_later k r hr

/-- A cell other than the barrier has one duty in each of its rounds, -/
theorem dutiesOf_one (hk : k ≠ cBar) (r : ℕ) (hr : r < rounds k) : dutiesOf k r = {false} := by
  rcases k with _ | ⟨δ, s⟩ | ⟨δ, s⟩ | ⟨δ, j⟩
  · exact absurd rfl hk
  all_goals simp only [rounds] at hr; simp only [dutiesOf]; exact if_pos (by omega)
/-- Which pays the units of one chunk; -/
theorem amountOf_one (hk : k ≠ cBar) : amountOf (some k) = N := by
  rcases k with _ | k
  · exact absurd rfl hk
  · rfl

/-- So that is what a wait on it expects, -/
theorem expect_one (hk : k ≠ cBar) (r : ℕ) (hr : r < rounds k) : (sched (F := F) m).expect (cell c k) r = N := by
  unfold Schedule.expect Schedule.amountOf
  rw [duties_cell, dutiesOf_one k hk r hr, Finset.sum_singleton, amount_cell, amountOf_one k hk]
/-- And what it gets is what that one duty hands over. -/
theorem rest_one (hk : k ≠ cBar) (r : ℕ) (hr : r < rounds k) :
    bigSep ((sched (F := F) m).duties (cell c k) r \ ∅) (fun d => (sched (F := F) m).payload (cell c k) r d) = payOf m k c r false := by
  rw [Finset.sdiff_empty, duties_cell, dutiesOf_one k hk r hr, bigSep_singleton, payload_cell]

/-- The barrier expects two units, -/
theorem expect_bar : (sched (F := F) m).expect (cell c cBar) 0 = 2 := by
  unfold Schedule.expect Schedule.amountOf
  rw [duties_cell, Finset.sum_congr rfl fun d _ => amount_cell m c cBar 0 d]
  rfl
/-- And gets the landing slots of both neighbours to which the device sends. -/
theorem rest_bar :
    bigSep ((sched (F := F) m).duties (cell c cBar) 0 \ ∅) (fun d => (sched (F := F) m).payload (cell c cBar) 0 d)
      = iprop(landing (F := F) false (tgt false c) ∗ landing (F := F) true (tgt true c)) := by
  rw [Finset.sdiff_empty, duties_cell, show dutiesOf cBar 0 = Finset.univ from rfl, bigSep_univ_eq_bigSepL [false, true] (by decide) (by decide),
    bigSepL_cons_cons, bigSepL_singleton, payload_cell, payload_cell]
  rfl

end Tables

/-! ## What each device owes; the levels -/

/-- What device `c` owes with `n` steps to go: per step the credit of both neighbours' receive cells. -/
def OF (c : Dev nD) : ℕ → CellTallies nD τ sig Unit
  | 0 => 0
  | n + 1 => OF c n + tallyAt (cell (tgt true c) (cRecv true (Fin.ofNat 6 (5 - n)))) () N
      + tallyAt (cell (tgt false c) (cRecv false (Fin.ofNat 6 (5 - n)))) () N
/-- At launch: all six steps and the two barrier signals, in the order in which they are paid (the last summand first). -/
def O₁ (c : Dev nD) : CellTallies nD τ sig Unit := OF c 6 + tallyAt (cell (tgt false c) cBar) () 1
/-- What a device owes when the kernel begins: its copies' units at its neighbours, and one unit at each neighbour's barrier. -/
def O₀ (c : Dev nD) : CellTallies nD τ sig Unit := O₁ c + tallyAt (cell (tgt true c) cBar) () 1

/-- Every cell of a TensorCore has one kind of unit, no other cell has any. -/
def L (g : GSem nD τ sig) : Finset Unit := if g.1.2 = .tc then {()} else ∅
/-- Barrier cells at 1, the receive cells of step `s` at `s + 2`, every other at 0. -/
def levOf : Option Cl → ℕ
  | some cBar => 1
  | some (cRecv _ s) => s.val + 2
  | _ => 0
/-- The level of a cell, by its name. -/
def lv (g : GSem nD τ sig) (_ : Unit) : ℕ := levOf (dec g.2)

/-- No unit elsewhere than on a TensorCore, -/
theorem L_of_ne (g : GSem nD τ sig) (h : g.1.2 ≠ .tc) : L g = ∅ := if_neg h
/-- One kind on it. -/
theorem L_tc (c : Dev nD) (sm : SemLoc sig) : L ((c : Thread nD τ), sm) = {()} := if_pos rfl
/-- The level of a named cell. -/
theorem lv_cell (c : Dev nD) (k : Cl) (u : Unit) : lv (cell c k) u = levOf (some k) := by unfold lv; rw [dec_csem]

/-- Where a tally of one cell is positive. -/
theorem tally_pos {g₀ g : GSem nD τ sig} {n : ℕ} {u : Unit} (h : 0 < (tallyAt g₀ () n : CellTallies nD τ sig Unit) g u) : g = g₀ := by
  rw [tallyAt_apply] at h
  by_contra hn
  rw [if_neg (fun h' => hn h'.1)] at h
  exact Nat.lt_irrefl 0 h
/-- A sum of two tallies is positive only where one of them is. -/
theorem add_pos_cases {O O' : CellTallies nD τ sig Unit} {g : GSem nD τ sig} {u : Unit} (h : 0 < (O + O') g u) : 0 < O g u ∨ 0 < O' g u := by
  rw [Pi.add_apply, Finsupp.add_apply] at h; omega

/-- With `n` steps to go a device owes receive cells of level at least `7 - n` and at most 7 only. -/
theorem OF_pos (c : Dev nD) : ∀ n, n ≤ 6 → ∀ (g : GSem nD τ sig) (u : Unit), 0 < OF c n g u →
    ∃ (c' : Dev nD) (k : Cl), g = cell c' k ∧ 8 - n ≤ levOf (some k)
  | 0, _, g, u, h => absurd h (Nat.lt_irrefl 0)
  | n + 1, hn, g, u, h => by
    rcases add_pos_cases h with h | h
    · rcases add_pos_cases h with h | h
      · obtain ⟨c', k, hg, hk⟩ := OF_pos c n (by omega) g u h
        exact ⟨c', k, hg, by omega⟩
      · exact ⟨_, _, tally_pos h, by simp only [levOf, Fin.val_ofNat]; omega⟩
    · exact ⟨_, _, tally_pos h, by simp only [levOf, Fin.val_ofNat]; omega⟩

/-- Waiting on an own cell while owing cells of higher levels only. -/
theorem mayWait_cell (c : Dev nD) (k : Cl) (O : CellTallies nD τ sig Unit)
    (hO : ∀ (g : GSem nD τ sig) (u : Unit), 0 < O g u → ∃ (c' : Dev nD) (k' : Cl), g = cell c' k' ∧ levOf (some k) < levOf (some k')) :
    (levAts L lv : sProp 𝕄) ⊢ MayWait (c : Thread nD τ) (csem k) () O :=
  MayOwe.of_cut (L := L) (lev := lv) (levOf (some k)) (fun p hp => by rw [Finset.mem_singleton.mp hp, L_tc]; exact Finset.mem_singleton_self _)
    (fun g u hg => by obtain ⟨c', k', rfl, _⟩ := hO g u hg; rw [L_tc]; exact Finset.mem_singleton_self _)
    (fun p hp => by rw [Finset.mem_singleton.mp hp, lv_cell])
    (fun g u hg => by obtain ⟨c', k', rfl, h⟩ := hO g u hg; rw [lv_cell]; exact h)

end Cert.KernelIdeal.Hand

end
-- ==== Proof.Rules.lean ====
/-
# One rule per operation of the kernel

For each kind of operation of the kernel a rule at the protocol's cells, generic in direction and step: a wait on an own DMA
cell, a copy to a neighbour, a copy within the device, the addition of a landed chunk to a working slot; then a whole step.
-/
module

public import proofs.«01_k».proof.Proof.Protocol

@[expose] public section

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The program has no loop that needs a variant. -/
abbrev 𝒱₀ : Variants := Variants.none

/-! ## What all devices know: every cell's invariant, and that every cell has reached round 0 -/

/-- The knowledge: every cell's invariant, and that every cell has reached round 0. -/
def records (K : Dev nD × Cl → ℕ) : sProp 𝕄 :=
  iprop((bigSep Finset.univ fun ck : Dev nD × Cl => cellInv ER (sched m) (K ck) (cell ck.1 ck.2))
    ∗ bigSep Finset.univ fun ck : Dev nD × Cl => reached ER (cell ck.1 ck.2) 0)

/-- It can be used any number of times. -/
instance records_persistent (K : Dev nD × Cl → ℕ) : BI.Persistent (records (F := F) m K) := by unfold records; infer_instance

/-- It gives one cell's invariant, -/
theorem inv_of (K : Dev nD × Cl → ℕ) (c : Dev nD) (k : Cl) : records (F := F) m K ⊢ cellInv ER (sched m) (K (c, k)) (cell c k) := by
  unfold records
  iintro ⟨HI, -⟩
  iapply (show (bigSep Finset.univ fun ck : Dev nD × Cl => (cellInv ER (sched m) (K ck) (cell ck.1 ck.2) : sProp 𝕄)) ⊢ cellInv ER (sched m) (K (c, k)) (cell c k)
    from by classical exact bigSep_elim (Finset.mem_univ (c, k)))
  iexact HI
/-- And that one cell has reached round 0. -/
theorem reached_of (K : Dev nD × Cl → ℕ) (c : Dev nD) (k : Cl) : records (F := F) m K ⊢ reached ER (cell c k) 0 := by
  unfold records
  iintro ⟨-, HR⟩
  iapply (show (bigSep Finset.univ fun ck : Dev nD × Cl => (reached ER (cell ck.1 ck.2) 0 : sProp 𝕄)) ⊢ reached ER (cell c k) 0
    from by classical exact bigSep_elim (Finset.mem_univ (c, k)))
  iexact HR

variable (K : Dev nD × Cl → ℕ)

/-- What a device owes, its record of past waits left open. -/
abbrev owing (c : Dev nD) (O : CellTallies nD τ sig Unit) : sProp 𝕄 := iprop(∃ W, owes (c : Thread nD τ) O W)

/-- The levels of what is owed exceed the level of the cell waited on. -/
abbrev Above (k : Cl) (O : CellTallies nD τ sig Unit) : Prop :=
  ∀ (g : GSem nD τ sig) (u : Unit), 0 < O g u → ∃ (c' : Dev nD) (k' : Cl), g = cell c' k' ∧ levOf (some k) < levOf (some k')

/-- A wait on an own DMA cell for the one duty of its round. -/
theorem wp_wait_cell (c : Dev nD) (k : Cl) (hk : k ≠ cBar) (r : ℕ) (hr : r < rounds k) {O : CellTallies nD τ sig Unit} (hO : Above k O)
    {sp sp' : Space} {s s' : Shape} {e e' : EltTy} {sem : DmaSem sig} {M : Memref sig .tc sp' s' e'} {M' : Memref sig .tc sp s e}
    {hsrc : M.view.WordExact} {hdst : M'.view.WordExact} (hsem : SemLoc.dma sem = csem k) (hN : M'.view.dmaCredit = N)
    {α : Type} {Q : α → sProp 𝕄} {kk : PUnit → Prog (TpuEff nD τ sig (Elt F) Λ₀ .tc) α} :
    iprop(records m K ∗ levAts L lv ∗ cred (tallyAt (cell c k) () N) ∗ owing (F := F) c O ∗ atPos ER (cell c k) r ∅ 0)
      ⊢ iprop(((owing (F := F) c O ∗ atPos ER (cell c k) (r + 1) ∅ 0 ∗ reached ER (cell c k) (r + 1) ∗ payOf m k c r false)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem M M' hsrc hdst) kk) Q) := by
  iintro ⟨#HR, #Hlev, Hc, ⟨%W, HO⟩, Hat⟩ Hk
  have hw := fun KK => wpE_waitDma2_eq (defs := defs₀ (F := F)) (Ix := Unit) (Name := ℕ) (U := UU) (Lvl := ℕ) 𝒱₀ (c : Thread nD τ) none Set.univ (sem := sem) (src := M) (dst := M') (hsrc := hsrc) (hdst := hdst) KK
  rw [hsem, hN] at hw
  iapply (Rounds.wp_wait_rest_token 𝒱₀ ER (sched m) (c : Thread nD τ) none (κ := K (c, k))
      hw (Set.mem_univ _) () (O := O) (W := W) (R := r) (m := 0) (T := ∅)
      (by rw [Nat.zero_add, expect_one m c k hk r hr])) $$ [Hc HO Hat]
  · isplitr; · iapply (inv_of m K c k); iexact HR
    isplitl [Hc]; · iexact Hc
    isplitl [HO]; · iexact HO
    isplitr; · iapply (mayWait_cell (F := F) c k O hO); iexact Hlev
    iexact Hat
  iintro ⟨HO, Hat, Hre, Hpay⟩
  ihave Hp := (Entails.of_eq (rest_one m c k hk r hr)) $$ Hpay
  iapply Hk
  isplitl [HO]; · iexists _; iexact HO
  isplitl [Hat]; · iexact Hat
  isplitl [Hre]; · iexact Hre
  iexact Hp

/-- The same for the cell's last round: the cell closes and its counter at zero is the device's again. -/
theorem wp_wait_close (c : Dev nD) (k : Cl) (hk : k ≠ cBar) (r : ℕ) (hr : r < rounds k) (hr' : rounds k ≤ r + 1) {O : CellTallies nD τ sig Unit} (hO : Above k O)
    {sp sp' : Space} {s s' : Shape} {e e' : EltTy} {sem : DmaSem sig} {M : Memref sig .tc sp' s' e'} {M' : Memref sig .tc sp s e}
    {hsrc : M.view.WordExact} {hdst : M'.view.WordExact} (hsem : SemLoc.dma sem = csem k) (hN : M'.view.dmaCredit = N)
    {α : Type} {Q : α → sProp 𝕄} {kk : PUnit → Prog (TpuEff nD τ sig (Elt F) Λ₀ .tc) α} :
    iprop(records m K ∗ levAts L lv ∗ cred (tallyAt (cell c k) () N) ∗ owing (F := F) c O ∗ atPos ER (cell c k) r ∅ 0)
      ⊢ iprop(((owing (F := F) c O ∗ semVal (cell c k) 0 ∗ payOf m k c r false)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem M M' hsrc hdst) kk) Q) := by
  iintro ⟨#HR, #Hlev, Hc, HO, Hat⟩ Hk
  iapply (wp_wait_cell m K c k hk r hr hO hsem hN) $$ [Hc HO Hat]
  · isplitr; · iexact HR
    isplitr; · iexact Hlev
    isplitl [Hc]; · iexact Hc
    isplitl [HO]; · iexact HO
    iexact Hat
  iintro ⟨HO, Hat, -, Hp⟩
  imod (Rounds.cell_close ER (sched m) (Set.mem_univ (K (c, k))) (fun h => h) (R := r + 1) (fun r' h => duties_later m c k r' (hr'.trans h))) $$ [Hat] with Hz
  · isplitr; · iapply (inv_of m K c k); iexact HR
    iexact Hat
  iapply Hk
  isplitl [HO]; · iexact HO
  isplitl [Hz]; · iexact Hz
  iexact Hp

/-- A copy's landing is the destination owned at what the source holds. -/
theorem own_landed {sp sp' : Space} (c c' : Dev nD) (M : Memref sig .tc sp S1024x1024 .f32) (M' : Memref sig .tc sp' S1024x1024 .f32)
    (fs : Buf (Elt F) (M.view.loc (c : Thread nD τ))) (fd : Buf (Elt F) (M'.view.loc (c' : Thread nD τ))) (X : Chunk F)
    (h : M.view.read (Elt F) fs = X) :
    (M'.view.loc (c' : Thread nD τ) ↦[M'.view.set]{fullShare} (M'.view.write (Elt F) fd (M.view.read (Elt F) fs) Finset.univ) : sProp 𝕄)
      ⊢ own c' M' X := by
  subst h
  refine (owns_intro (c' : Thread nD τ) M' fullShare _).trans (Entails.of_eq ?_)
  rw [View.read_write_univ]

/-- The copy of step `s` in direction `δ` to the neighbour. -/
theorem wp_send (c n : Dev nD) (δ : Bool) (s : Fin 6) (hn : n = tgt δ c) {M M' : Memref sig .tc .vmem S1024x1024 .f32}
    (hM : M = slotM δ (srcSlot s)) (hM' : M' = dstM δ s) {sS sR : DmaSem sig}
    (hsS : SemLoc.dma sS = csem (cSend δ s)) (hsR : SemLoc.dma sR = csem (cRecv δ s))
    {O₀ O : CellTallies nD τ sig Unit} (hO : O₀ = O + tallyAt (cell (tgt δ c) (cRecv δ s)) () N)
    {hsc : (M' : Memref sig (Dev.tc n : Thread nD τ).2.kind .vmem S1024x1024 .f32).view.ref.isScScratch = false}
    {hsrc : M.view.WordExact} {hdst : (M' : Memref sig (Dev.tc n : Thread nD τ).2.kind .vmem S1024x1024 .f32).view.WordExact}
    {hsem : DmaTarget.Typed .vmem (.dma sR) (.remote (Dev.tc n : Thread nD τ) (M' : Memref sig (Dev.tc n : Thread nD τ).2.kind .vmem S1024x1024 .f32) (.dma sS) hsc)}
    {α : Type} {Q : α → sProp 𝕄} {k : PUnit → Prog (TpuEff nD τ sig (Elt F) Λ₀ .tc) α} :
    iprop(records m K ∗ own c (slotM δ (srcSlot s)) (acc m δ s.val c) ∗ any (F := F) (tgt δ c) (dstM δ s) ∗ rider (F := F) δ s c
        ∗ owing (F := F) c O₀ ∗ dutyTok ER (cell c (cSend δ s)) 0 false ∗ dutyTok ER (cell (tgt δ c) (cRecv δ s)) 0 false)
      ⊢ iprop(((cred (tallyAt (cell c (cSend δ s)) () N) ∗ owing (F := F) c O)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma M (.remote (Dev.tc n : Thread nD τ) M' (.dma sS) hsc) (.dma sR) hsrc hdst hsem) k) Q) := by
  subst hn hM hM'
  unfold any own owns
  iintro ⟨#HR, ⟨%fs, %hfs, Hs⟩, ⟨%X, %fd, %hfd, Hd⟩, Hrd, ⟨%W, HO⟩, Ht1, Ht2⟩ Hk
  have hA : ∀ q : DmaSem sig, (dstM δ s).view.amount (.dma q) = N := fun q => credit_dst δ s
  have hA := hA sR
  generalize hS : SemLoc.dma sS = cS at *
  generalize hV : SemLoc.dma sR = cR at *
  subst hsS hsR
  iapply (Rounds.wp_send_pointsTo_with 𝒱₀ ER (sched m) (c : Thread nD τ) none (κ₁ := K (c, cSend δ s)) (κ₂ := K (tgt δ c, cRecv δ s))
    (c' := (tgt δ c : Thread nD τ)) (r₁ := 0) (r₂ := 0) (d₁ := false) (d₂ := false) (fs := fs) (fd := fd) (F := rider (F := F) δ s c)
    (by rw [duties_cell]; exact Finset.mem_singleton_self _) (by rw [duties_cell]; exact Finset.mem_singleton_self _)
    () () N hA (amount_cell m c _ 0 false) (amount_cell m (tgt δ c) _ 0 false) O hO (W := W)
    (by
      rw [payload_cell]
      exact (owns_intro (c : Thread nD τ) (slotM δ (srcSlot s)) fullShare fs).trans (Entails.of_eq (by rw [hfs]; rfl)))
    (by
      rw [payload_cell]
      show _ ⊢ iprop(own (tgt δ c) (dstM δ s) (acc m δ s.val (src δ (tgt δ c))) ∗ rider (F := F) δ s (src δ (tgt δ c)))
      rw [src_tgt]
      exact sep_mono_left (own_landed c (tgt δ c) (slotM δ (srcSlot s)) (dstM δ s) fs fd _ hfs))) $$ [Hs Hd Hrd HO Ht1 Ht2]
  · isplitr; · iapply (inv_of m K c (cSend δ s)); iexact HR
    isplitr; · iapply (inv_of m K (tgt δ c) (cRecv δ s)); iexact HR
    isplitl [Hs]; · iexact Hs
    isplitl [Hd Hrd]
    · isplitl [Hd]; · iexact Hd
      iexact Hrd
    isplitl [HO]; · iexact HO
    isplitl [Ht1]; · iexact Ht1
    isplitr; · iapply (reached_of m K c (cSend δ s)); iexact HR
    isplitl [Ht2]; · iexact Ht2
    iapply (reached_of m K (tgt δ c) (cRecv δ s)); iexact HR
  iintro ⟨Hc, HO⟩
  iapply Hk
  isplitl [Hc]; · iexact Hc
  iexists W; iexact HO

/-- A copy within the device, under local-copy cell (δ, j). -/
theorem wp_local (c : Dev nD) (δ : Bool) (j : Fin 4) (r : ℕ) (hr : r < 2) {sp sp' : Space} {M : Memref sig .tc sp S1024x1024 .f32} {M' : Memref sig .tc sp' S1024x1024 .f32}
    {sem : DmaSem sig} (hsem : SemLoc.dma sem = csem (cLoc δ j)) (hN : M'.view.dmaCredit = N) (X : Chunk F)
    (hpay : iprop(own c M' X ∗ own c M X) ⊢ payOf m (cLoc δ j) c r false)
    {hsrc : M.view.WordExact} {hdst : M'.view.WordExact} {ht : DmaTarget.Typed (nD := nD) sp (.dma sem) (.here (p := (Dev.tc c : Thread nD τ).2) M')}
    {α : Type} {Q : α → sProp 𝕄} {k : PUnit → Prog (TpuEff nD τ sig (Elt F) Λ₀ .tc) α} :
    iprop(records m K ∗ own c M X ∗ any (F := F) c M' ∗ dutyTok ER (cell c (cLoc δ j)) r false ∗ reached ER (cell c (cLoc δ j)) r)
      ⊢ iprop((cred (tallyAt (cell c (cLoc δ j)) () N)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma M (.here M') (.dma sem) hsrc hdst ht) k) Q) := by
  unfold any own owns
  iintro ⟨#HR, ⟨%fs, %hfs, Hs⟩, ⟨%Y, %fd, %hfd, Hd⟩, Ht, Hre⟩ Hk
  have hA : M'.view.amount (.dma sem) = N := hN
  generalize hS : SemLoc.dma sem = cS at *
  subst hsem
  iapply (Rounds.wp_copy_pointsTo 𝒱₀ ER (sched m) (c : Thread nD τ) none (κ := K (c, cLoc δ j)) (r := r) (d := false) (fs := fs) (fd := fd) (q := fullShare)
    (by rw [duties_cell, dutiesOf_one (cLoc δ j) (by intro h; cases h) r hr]; exact Finset.mem_singleton_self _) () N hA (amount_cell m c _ r false)
    (by
      rw [payload_cell]
      refine (BI.sep_mono (own_landed c c M M' fs fd X hfs) ((owns_intro (c : Thread nD τ) M fullShare fs).trans (Entails.of_eq (by rw [hfs])))).trans hpay)) $$ [Hs Hd Ht Hre]
  · isplitr; · iapply (inv_of m K c (cLoc δ j)); iexact HR
    isplitl [Hs]; · iexact Hs
    isplitl [Hd]; · iexact Hd
    isplitl [Ht]; · iexact Ht
    iexact Hre
  iintro Hc
  iapply Hk
  iexact Hc

/-- A landed chunk added to a working slot. -/
theorem wp_add (c : Dev nD) (δ : Bool) (j : Fin 4) (s : Fin 3) {V T : Chunk F}
    {pay : Vec F S1024x1024 .f32 → Vec F S1x1024x1024 .f32 → FVec F S1024x1024 .f32}
    (hpay : ∀ v t, pay v t = addf v (shapeCast S1024x1024 t shapeCasts_S1x1024x1024_S1024x1024))
    {M : Memref sig .tc .vmem S3x1024x1024 .f32} (hM : M = tmpW δ)
    {off : Fin 2 → ℕ} {inb : ∀ a, off a + S1024x1024.size a ≤ S8192x1024.size a} (hoff : off = ![row δ j, 0])
    {off' : Fin 3 → ℕ} {inb' : ∀ a, off' a + S1x1024x1024.size a ≤ S3x1024x1024.size a} (hoff' : off' = ![s.val, 0, 0])
    {hl₁ hl₃ : workW.view.LoadsAt (Rect.unit (s := S8192x1024) off S1024x1024.size inb).toLoadRect}
    {hl₂ : M.view.LoadsAt (Rect.unit (s := S3x1024x1024) off' S1x1024x1024.size inb').toLoadRect}
    {hx : (workW.access (Rect.unit (s := S8192x1024) off S1024x1024.size inb)).Stores Finset.univ}
    {hm : (Finset.univ : Finset (Rect.unit (s := S8192x1024) off S1024x1024.size inb).shape.Idx) = Finset.univ
      ∨ ∀ a, (Rect.unit (s := S8192x1024) off S1024x1024.size inb).stride a = 1}
    {α : Type} {Q : α → sProp 𝕄} {k : PUnit → Prog (TpuEff nD τ sig (Elt F) Λ₀ .tc) α} :
    iprop(own c (slotM δ j) V ∗ own c (tmpM δ s) T)
      ⊢ iprop(((own c (slotM δ j) (addf V T) ∗ own c (tmpM δ s) T)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load workW (Rect.unit (s := S8192x1024) off S1024x1024.size inb).toLoadRect hl₁) fun v =>
                .op (.load M (Rect.unit (s := S3x1024x1024) off' S1x1024x1024.size inb').toLoadRect hl₂) fun t =>
                .op (.load workW (Rect.unit (s := S8192x1024) off S1024x1024.size inb).toLoadRect hl₃) fun _ =>
                .op (.store workW (Rect.unit (s := S8192x1024) off S1024x1024.size inb) (pay v t) Finset.univ hx hm) k) Q) := by
  subst hM hoff hoff'
  unfold own owns
  iintro ⟨⟨%f, %hf, Hs⟩, ⟨%g, %hg, Ht⟩⟩ Hk
  subst hf hg
  iapply (wp_load_rect 𝒱₀ (c : Thread nD τ) none Set.univ (m := workW) (r := slotR δ j) (f := f) (q := fullShare) (S := (slotM δ j).view.set) (Finset.Subset.refl _)) $$ [Hs]
  · iexact Hs
  iintro Hs
  iapply (wp_load_rect 𝒱₀ (c : Thread nD τ) none Set.univ (m := tmpW δ) (r := tmpR s) (f := g) (q := fullShare) (S := (tmpM δ s).view.set)
    (by rw [Memref.set_view_squeeze])) $$ [Ht]
  · iexact Ht
  iintro Ht
  iapply (wp_load_rect 𝒱₀ (c : Thread nD τ) none Set.univ (m := workW) (r := slotR δ j) (f := f) (q := fullShare) (S := (slotM δ j).view.set) (Finset.Subset.refl _)) $$ [Hs]
  · iexact Hs
  iintro Hs
  iapply (wp_store 𝒱₀ (c : Thread nD τ) none Set.univ (m := workW) (r := slotR δ j) (Mk := Finset.univ) (f := f) (S := (slotM δ j).view.set) (Finset.Subset.refl _)) $$ [Hs]
  · iexact Hs
  iintro Hs
  iapply Hk
  isplitl [Hs]
  · iexists _
    isplitr
    swap
    · iexact Hs
    · ipureintro
      rw [hpay]
      exact View.read_write_univ _ _
  · iexists g
    isplitr
    · ipureintro; rfl
    · iexact Ht

/-! ## A step -/

/-- A device's part in the two cells of a step in a direction. -/
def keys (c : Dev nD) (δ : Bool) (s : Fin 6) : sProp 𝕄 :=
  iprop(dutyTok ER (cell c (cSend δ s)) 0 false ∗ dutyTok ER (cell (tgt δ c) (cRecv δ s)) 0 false ∗ cred (tallyAt (cell c (cRecv δ s)) () N)
    ∗ atPos ER (cell c (cSend δ s)) 0 ∅ 0 ∗ atPos ER (cell c (cRecv δ s)) 0 ∅ 0)

/-- What a step needs in a direction: the slot it reads at the running sum, where it writes on the neighbour, what it
hands on, its part in the cells. -/
def before (c : Dev nD) (δ : Bool) (s : Fin 6) : sProp 𝕄 :=
  iprop(own c (slotM δ (srcSlot s)) (acc m δ s.val c) ∗ any (F := F) (tgt δ c) (dstM δ s) ∗ rider (F := F) δ s c ∗ keys (F := F) c δ s)
/-- What it leaves: the slot, the chunk that came in, what came with it, both cells' counters. -/
def after (c : Dev nD) (δ : Bool) (s : Fin 6) : sProp 𝕄 :=
  iprop(own c (slotM δ (srcSlot s)) (acc m δ s.val c) ∗ own c (dstM δ s) (acc m δ s.val (src δ c)) ∗ rider (F := F) δ s (src δ c)
    ∗ semVal (cell c (cSend δ s)) 0 ∗ semVal (cell c (cRecv δ s)) 0)

/-- A wait on a send cell is below all that the device still owes; -/
theorem above_send (c : Dev nD) (δ : Bool) (s : Fin 6) (n : ℕ) (hn : n ≤ 6) : Above (cSend δ s) (OF c n) := fun g u h => by
  obtain ⟨c', k, hg, hk⟩ := OF_pos c n hn g u h
  exact ⟨c', k, hg, lt_of_lt_of_le (show 0 < 8 - n by omega) hk⟩
/-- So is a wait on a local-copy cell, -/
theorem above_loc (c : Dev nD) (δ : Bool) (j : Fin 4) (n : ℕ) (hn : n ≤ 6) : Above (cLoc δ j) (OF c n) := fun g u h => by
  obtain ⟨c', k, hg, hk⟩ := OF_pos c n hn g u h
  exact ⟨c', k, hg, lt_of_lt_of_le (show 0 < 8 - n by omega) hk⟩
/-- On the barrier with all steps to go, -/
theorem above_bar (c : Dev nD) : Above cBar (OF c 6) := fun g u h => by
  obtain ⟨c', k, hg, hk⟩ := OF_pos c 6 (le_refl 6) g u h
  exact ⟨c', k, hg, lt_of_lt_of_le (show 1 < 8 - 6 by omega) hk⟩
/-- And on the receive cell of step `s` when steps up to `s` have been sent. -/
theorem above_recv (c : Dev nD) (δ : Bool) (s : Fin 6) (n : ℕ) (hn : n + s.val = 5) : Above (cRecv δ s) (OF c n) := fun g u h => by
  obtain ⟨c', k, hg, hk⟩ := OF_pos c n (by omega) g u h
  exact ⟨c', k, hg, lt_of_lt_of_le (show s.val + 2 < 8 - n by omega) hk⟩

/-- What is owed with one step more to go: the two copies of that step besides. -/
theorem OF_step (c : Dev nD) (s : Fin 6) (n : ℕ) (hn : n + s.val = 5) :
    OF c (n + 1) = OF c n + tallyAt (cell (tgt true c) (cRecv true s)) () N + tallyAt (cell (tgt false c) (cRecv false s)) () N := by
  have : Fin.ofNat 6 (5 - n) = s := by
    apply Fin.ext; rw [Fin.val_ofNat]; omega
  rw [← this]; rfl

/-- The six operations of a step. -/
theorem wp_step (c : Dev nD) (s : Fin 6) (n : ℕ) (hn : n + s.val = 5)
    {n₁ n₂ : Dev nD} (h₁ : n₁ = tgt false c) (h₂ : n₂ = tgt true c)
    {A₁ B₁ A₂ B₂ : Memref sig .tc .vmem S1024x1024 .f32}
    (hA₁ : A₁ = slotM false (srcSlot s)) (hB₁ : B₁ = dstM false s) (hA₂ : A₂ = slotM true (srcSlot s)) (hB₂ : B₂ = dstM true s)
    {sS₁ sR₁ sS₂ sR₂ tS₁ tR₁ tS₂ tR₂ : DmaSem sig}
    (hsS₁ : SemLoc.dma sS₁ = csem (cSend false s)) (hsR₁ : SemLoc.dma sR₁ = csem (cRecv false s))
    (hsS₂ : SemLoc.dma sS₂ = csem (cSend true s)) (hsR₂ : SemLoc.dma sR₂ = csem (cRecv true s))
    (htS₁ : SemLoc.dma tS₁ = csem (cSend false s)) (htR₁ : SemLoc.dma tR₁ = csem (cRecv false s))
    (htS₂ : SemLoc.dma tS₂ = csem (cSend true s)) (htR₂ : SemLoc.dma tR₂ = csem (cRecv true s))
    {hsc₁ : (B₁ : Memref sig (Dev.tc n₁ : Thread nD τ).2.kind .vmem S1024x1024 .f32).view.ref.isScScratch = false}
    {hsrc₁ : A₁.view.WordExact} {hdst₁ : (B₁ : Memref sig (Dev.tc n₁ : Thread nD τ).2.kind .vmem S1024x1024 .f32).view.WordExact}
    {hsem₁ : DmaTarget.Typed .vmem (.dma sR₁) (.remote (Dev.tc n₁ : Thread nD τ) (B₁ : Memref sig (Dev.tc n₁ : Thread nD τ).2.kind .vmem S1024x1024 .f32) (.dma sS₁) hsc₁)}
    {hsc₂ : (B₂ : Memref sig (Dev.tc n₂ : Thread nD τ).2.kind .vmem S1024x1024 .f32).view.ref.isScScratch = false}
    {hsrc₂ : A₂.view.WordExact} {hdst₂ : (B₂ : Memref sig (Dev.tc n₂ : Thread nD τ).2.kind .vmem S1024x1024 .f32).view.WordExact}
    {hsem₂ : DmaTarget.Typed .vmem (.dma sR₂) (.remote (Dev.tc n₂ : Thread nD τ) (B₂ : Memref sig (Dev.tc n₂ : Thread nD τ).2.kind .vmem S1024x1024 .f32) (.dma sS₂) hsc₂)}
    {C₁ C₂ C₃ C₄ D₁ D₂ D₃ D₄ : Memref sig .tc .vmem S1024x1024 .f32}
    (hD₁ : D₁.view.dmaCredit = N) (hD₂ : D₂.view.dmaCredit = N) (hD₃ : D₃.view.dmaCredit = N) (hD₄ : D₄.view.dmaCredit = N)
    {e₁ : C₁.view.WordExact} {f₁ : D₁.view.WordExact} {e₂ : C₂.view.WordExact} {f₂ : D₂.view.WordExact}
    {e₃ : C₃.view.WordExact} {f₃ : D₃.view.WordExact} {e₄ : C₄.view.WordExact} {f₄ : D₄.view.WordExact}
    {α : Type} {Q : α → sProp 𝕄} {k : PUnit → Prog (TpuEff nD τ sig (Elt F) Λ₀ .tc) α} :
    iprop(records m K ∗ levAts L lv ∗ owing (F := F) c (OF c (n + 1)) ∗ before m c false s ∗ before m c true s)
      ⊢ iprop(((owing (F := F) c (OF c n) ∗ after m c false s ∗ after m c true s)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma A₁ (.remote (Dev.tc n₁ : Thread nD τ) B₁ (.dma sS₁) hsc₁) (.dma sR₁) hsrc₁ hdst₁ hsem₁) fun _ =>
                .op (.enqueueDma A₂ (.remote (Dev.tc n₂ : Thread nD τ) B₂ (.dma sS₂) hsc₂) (.dma sR₂) hsrc₂ hdst₂ hsem₂) fun _ =>
                .op (.waitDma2 tS₁ C₁ D₁ e₁ f₁) fun _ => .op (.waitDma2 tR₁ C₂ D₂ e₂ f₂) fun _ =>
                .op (.waitDma2 tS₂ C₃ D₃ e₃ f₃) fun _ => .op (.waitDma2 tR₂ C₄ D₄ e₄ f₄) k) Q) := by
  rw [OF_step c s n hn]
  unfold before after keys
  iintro ⟨#HR, #Hlev, HO, ⟨Hs₁, Hd₁, Hr₁, Ht₁, Ht₁', Hc₁, HA₁, HA₁'⟩, ⟨Hs₂, Hd₂, Hr₂, Ht₂, Ht₂', Hc₂, HA₂, HA₂'⟩⟩ Hk
  iapply (wp_send m K c n₁ false s h₁ hA₁ hB₁ hsS₁ hsR₁ (O := OF c n + tallyAt (cell (tgt true c) (cRecv true s)) () N) rfl) $$ [Hs₁ Hd₁ Hr₁ HO Ht₁ Ht₁']
  · isplitr; · iexact HR
    isplitl [Hs₁]; · iexact Hs₁
    isplitl [Hd₁]; · iexact Hd₁
    isplitl [Hr₁]; · iexact Hr₁
    isplitl [HO]; · iexact HO
    isplitl [Ht₁]; · iexact Ht₁
    iexact Ht₁'
  iintro ⟨Hcs₁, HO⟩
  iapply (wp_send m K c n₂ true s h₂ hA₂ hB₂ hsS₂ hsR₂ (O := OF c n) rfl) $$ [Hs₂ Hd₂ Hr₂ HO Ht₂ Ht₂']
  · isplitr; · iexact HR
    isplitl [Hs₂]; · iexact Hs₂
    isplitl [Hd₂]; · iexact Hd₂
    isplitl [Hr₂]; · iexact Hr₂
    isplitl [HO]; · iexact HO
    isplitl [Ht₂]; · iexact Ht₂
    iexact Ht₂'
  iintro ⟨Hcs₂, HO⟩
  iapply (wp_wait_close m K c (cSend false s) (by intro h; cases h) 0 Nat.one_pos (le_refl 1) (above_send c false s n (by omega)) htS₁ hD₁) $$ [Hcs₁ HO HA₁]
  · isplitr; · iexact HR
    isplitr; · iexact Hlev
    isplitl [Hcs₁]; · iexact Hcs₁
    isplitl [HO]; · iexact HO
    iexact HA₁
  iintro ⟨HO, HZ₁, Hs₁⟩
  iapply (wp_wait_close m K c (cRecv false s) (by intro h; cases h) 0 Nat.one_pos (le_refl 1) (above_recv c false s n hn) htR₁ hD₂) $$ [Hc₁ HO HA₁']
  · isplitr; · iexact HR
    isplitr; · iexact Hlev
    isplitl [Hc₁]; · iexact Hc₁
    isplitl [HO]; · iexact HO
    iexact HA₁'
  iintro ⟨HO, HZ₁', Hp₁⟩
  iapply (wp_wait_close m K c (cSend true s) (by intro h; cases h) 0 Nat.one_pos (le_refl 1) (above_send c true s n (by omega)) htS₂ hD₃) $$ [Hcs₂ HO HA₂]
  · isplitr; · iexact HR
    isplitr; · iexact Hlev
    isplitl [Hcs₂]; · iexact Hcs₂
    isplitl [HO]; · iexact HO
    iexact HA₂
  iintro ⟨HO, HZ₂, Hs₂⟩
  iapply (wp_wait_close m K c (cRecv true s) (by intro h; cases h) 0 Nat.one_pos (le_refl 1) (above_recv c true s n hn) htR₂ hD₄) $$ [Hc₂ HO HA₂']
  · isplitr; · iexact HR
    isplitr; · iexact Hlev
    isplitl [Hc₂]; · iexact Hc₂
    isplitl [HO]; · iexact HO
    iexact HA₂'
  iintro ⟨HO, HZ₂', Hp₂⟩
  unfold payOf
  icases Hp₁ with ⟨Hp₁, Hr₁⟩
  icases Hp₂ with ⟨Hp₂, Hr₂⟩
  iapply Hk
  isplitl [HO]; · iexact HO
  isplitl [Hs₁ Hp₁ Hr₁ HZ₁ HZ₁']
  · isplitl [Hs₁]; · iexact Hs₁
    isplitl [Hp₁]; · iexact Hp₁
    isplitl [Hr₁]; · iexact Hr₁
    isplitl [HZ₁]; · iexact HZ₁
    iexact HZ₁'
  · isplitl [Hs₂]; · iexact Hs₂
    isplitl [Hp₂]; · iexact Hp₂
    isplitl [Hr₂]; · iexact Hr₂
    isplitl [HZ₂]; · iexact HZ₂
    iexact HZ₂'

end Cert.KernelIdeal.Hand

end
-- ==== Proof.Phases.lean ====
/-
# The two phases of copies within the device

The input's eight chunks are copied into the working slots, at the end the eight slots into the result. In both phases all copies
are started, in pairs of one chunk of each direction, before the first is waited for; a rule per pair.
-/
module

public import proofs.«01_k».proof.Proof.Rules

@[expose] public section

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cl → ℕ)

/-- What the copy of chunk `j` into its slot takes. -/
def inB (c : Dev nD) (δ : Bool) (j : Fin 4) : sProp 𝕄 :=
  iprop(own c (xM c δ j) (x0 m δ j c) ∗ any (F := F) c (slotM δ j) ∗ dutyTok ER (cell c (cLoc δ j)) 0 false)
/-- What its wait gives. -/
def inA (c : Dev nD) (δ : Bool) (j : Fin 4) : sProp 𝕄 :=
  iprop(own c (slotM δ j) (x0 m δ j c) ∗ own c (xM c δ j) (x0 m δ j c) ∗ atPos ER (cell c (cLoc δ j)) 1 ∅ 0 ∗ reached ER (cell c (cLoc δ j)) 1)
/-- What the copy of slot `j` into the result takes. -/
def outB (c : Dev nD) (δ : Bool) (j : Fin 4) : sProp 𝕄 :=
  iprop(own c (slotM δ j) (done m δ j c) ∗ any (F := F) c (outM c δ j) ∗ dutyTok ER (cell c (cLoc δ j)) 1 false ∗ reached ER (cell c (cLoc δ j)) 1)
/-- What its wait gives. -/
def outA (c : Dev nD) (δ : Bool) (j : Fin 4) : sProp 𝕄 :=
  iprop(own c (outM c δ j) (done m δ j c) ∗ own c (slotM δ j) (done m δ j c) ∗ semVal (cell c (cLoc δ j)) 0)
/-- The credit of a copy under way. -/
abbrev flying (c : Dev nD) (δ : Bool) (j : Fin 4) : sProp 𝕄 := cred (tallyAt (cell c (cLoc δ j)) () N)

/-- What a local copy hands over in its first round: the working slot and the chunk of the input, both holding the input. -/
theorem pay_in (c : Dev nD) (δ : Bool) (j : Fin 4) :
    payOf m (cLoc δ j) c 0 false = iprop(own c (slotM δ j) (x0 m δ j c) ∗ own c (xM c δ j) (x0 m δ j c)) := by
  simp only [payOf, if_true]
/-- In its second round: the chunk of the result and the working slot, both holding the finished chunk. -/
theorem pay_out (c : Dev nD) (δ : Bool) (j : Fin 4) :
    payOf m (cLoc δ j) c 1 false = iprop(own c (outM c δ j) (done m δ j c) ∗ own c (slotM δ j) (done m δ j c)) := by
  simp only [payOf, if_neg Nat.one_ne_zero]

/-- The two copies of chunk `j` into the working slots. -/
theorem wp_in2 (c : Dev nD) (j : Fin 4)
    {A₁ A₂ : Memref sig .tc .hbm S1024x1024 .f32} {B₁ B₂ : Memref sig .tc .vmem S1024x1024 .f32}
    (hA₁ : A₁ = xM c false j) (hB₁ : B₁ = slotM false j) (hA₂ : A₂ = xM c true j) (hB₂ : B₂ = slotM true j)
    {s₁ s₂ : DmaSem sig} (hs₁ : SemLoc.dma s₁ = csem (cLoc false j)) (hs₂ : SemLoc.dma s₂ = csem (cLoc true j))
    {e₁ : A₁.view.WordExact} {f₁ : B₁.view.WordExact} {g₁ : DmaTarget.Typed (nD := nD) .hbm (.dma s₁) (.here (p := (Dev.tc c : Thread nD τ).2) B₁)}
    {e₂ : A₂.view.WordExact} {f₂ : B₂.view.WordExact} {g₂ : DmaTarget.Typed (nD := nD) .hbm (.dma s₂) (.here (p := (Dev.tc c : Thread nD τ).2) B₂)}
    {α : Type} {Q : α → sProp 𝕄} {k : PUnit → Prog (TpuEff nD τ sig (Elt F) Λ₀ .tc) α} :
    iprop(records m K ∗ inB m c false j ∗ inB m c true j)
      ⊢ iprop(((flying (F := F) c false j ∗ flying (F := F) c true j) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma A₁ (.here B₁) (.dma s₁) e₁ f₁ g₁) fun _ => .op (.enqueueDma A₂ (.here B₂) (.dma s₂) e₂ f₂ g₂) k) Q) := by
  subst hA₁ hB₁ hA₂ hB₂
  unfold inB
  iintro ⟨#HR, ⟨Hs₁, Hd₁, Ht₁⟩, ⟨Hs₂, Hd₂, Ht₂⟩⟩ Hk
  iapply (wp_local m K c false j 0 (by decide) hs₁ (credit_slot false j) (x0 m false j c) (Entails.of_eq (pay_in m c false j).symm)) $$ [Hs₁ Hd₁ Ht₁]
  · isplitr; · iexact HR
    isplitl [Hs₁]; · iexact Hs₁
    isplitl [Hd₁]; · iexact Hd₁
    isplitl [Ht₁]; · iexact Ht₁
    iapply (reached_of m K c (cLoc false j)); iexact HR
  iintro Hc₁
  iapply (wp_local m K c true j 0 (by decide) hs₂ (credit_slot true j) (x0 m true j c) (Entails.of_eq (pay_in m c true j).symm)) $$ [Hs₂ Hd₂ Ht₂]
  · isplitr; · iexact HR
    isplitl [Hs₂]; · iexact Hs₂
    isplitl [Hd₂]; · iexact Hd₂
    isplitl [Ht₂]; · iexact Ht₂
    iapply (reached_of m K c (cLoc true j)); iexact HR
  iintro Hc₂
  iapply Hk
  isplitl [Hc₁] <;> iassumption

/-- The two waits for them. -/
theorem wp_inw2 (c : Dev nD) (j : Fin 4) (n : ℕ) (hn : n ≤ 6)
    {sa sb : Space} {A₁ A₂ : Memref sig .tc sa S1024x1024 .f32} {B₁ B₂ : Memref sig .tc sb S1024x1024 .f32}
    (hB₁ : B₁.view.dmaCredit = N) (hB₂ : B₂.view.dmaCredit = N)
    {s₁ s₂ : DmaSem sig} (hs₁ : SemLoc.dma s₁ = csem (cLoc false j)) (hs₂ : SemLoc.dma s₂ = csem (cLoc true j))
    {e₁ : A₁.view.WordExact} {f₁ : B₁.view.WordExact} {e₂ : A₂.view.WordExact} {f₂ : B₂.view.WordExact}
    {α : Type} {Q : α → sProp 𝕄} {k : PUnit → Prog (TpuEff nD τ sig (Elt F) Λ₀ .tc) α} :
    iprop(records m K ∗ levAts L lv ∗ owing (F := F) c (OF c n) ∗ (flying (F := F) c false j ∗ flying (F := F) c true j)
        ∗ atPos ER (cell c (cLoc false j)) 0 ∅ 0 ∗ atPos ER (cell c (cLoc true j)) 0 ∅ 0)
      ⊢ iprop(((owing (F := F) c (OF c n) ∗ inA m c false j ∗ inA m c true j) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 s₁ A₁ B₁ e₁ f₁) fun _ => .op (.waitDma2 s₂ A₂ B₂ e₂ f₂) k) Q) := by
  unfold inA
  iintro ⟨#HR, #Hlev, HO, ⟨Hc₁, Hc₂⟩, Ha₁, Ha₂⟩ Hk
  iapply (wp_wait_cell m K c (cLoc false j) (by intro h; cases h) 0 Nat.two_pos (above_loc c false j n hn) hs₁ hB₁) $$ [Hc₁ HO Ha₁]
  · isplitr; · iexact HR
    isplitr; · iexact Hlev
    isplitl [Hc₁]; · iexact Hc₁
    isplitl [HO]; · iexact HO
    iexact Ha₁
  iintro ⟨HO, Ha₁, Hre₁, Hp₁⟩
  ihave Hp₁ := (Entails.of_eq (pay_in m c false j)) $$ Hp₁
  icases Hp₁ with ⟨Hp₁, Hq₁⟩
  iapply (wp_wait_cell m K c (cLoc true j) (by intro h; cases h) 0 Nat.two_pos (above_loc c true j n hn) hs₂ hB₂) $$ [Hc₂ HO Ha₂]
  · isplitr; · iexact HR
    isplitr; · iexact Hlev
    isplitl [Hc₂]; · iexact Hc₂
    isplitl [HO]; · iexact HO
    iexact Ha₂
  iintro ⟨HO, Ha₂, Hre₂, Hp₂⟩
  ihave Hp₂ := (Entails.of_eq (pay_in m c true j)) $$ Hp₂
  icases Hp₂ with ⟨Hp₂, Hq₂⟩
  iapply Hk
  isplitl [HO]; · iexact HO
  isplitl [Hp₁ Hq₁ Ha₁ Hre₁]
  · isplitl [Hp₁]; · iexact Hp₁
    isplitl [Hq₁]; · iexact Hq₁
    isplitl [Ha₁]; · iexact Ha₁
    iexact Hre₁
  · isplitl [Hp₂]; · iexact Hp₂
    isplitl [Hq₂]; · iexact Hq₂
    isplitl [Ha₂]; · iexact Ha₂
    iexact Hre₂

/-- The two copies of slot `j` into the result. -/
theorem wp_out2 (c : Dev nD) (j : Fin 4)
    {A₁ A₂ : Memref sig .tc .vmem S1024x1024 .f32} {B₁ B₂ : Memref sig .tc .hbm S1024x1024 .f32}
    (hA₁ : A₁ = slotM false j) (hB₁ : B₁ = outM c false j) (hA₂ : A₂ = slotM true j) (hB₂ : B₂ = outM c true j)
    {s₁ s₂ : DmaSem sig} (hs₁ : SemLoc.dma s₁ = csem (cLoc false j)) (hs₂ : SemLoc.dma s₂ = csem (cLoc true j))
    {e₁ : A₁.view.WordExact} {f₁ : B₁.view.WordExact} {g₁ : DmaTarget.Typed (nD := nD) .vmem (.dma s₁) (.here (p := (Dev.tc c : Thread nD τ).2) B₁)}
    {e₂ : A₂.view.WordExact} {f₂ : B₂.view.WordExact} {g₂ : DmaTarget.Typed (nD := nD) .vmem (.dma s₂) (.here (p := (Dev.tc c : Thread nD τ).2) B₂)}
    {α : Type} {Q : α → sProp 𝕄} {k : PUnit → Prog (TpuEff nD τ sig (Elt F) Λ₀ .tc) α} :
    iprop(records m K ∗ outB m c false j ∗ outB m c true j)
      ⊢ iprop(((flying (F := F) c false j ∗ flying (F := F) c true j) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma A₁ (.here B₁) (.dma s₁) e₁ f₁ g₁) fun _ => .op (.enqueueDma A₂ (.here B₂) (.dma s₂) e₂ f₂ g₂) k) Q) := by
  subst hA₁ hB₁ hA₂ hB₂
  unfold outB
  iintro ⟨#HR, ⟨Hs₁, Hd₁, Ht₁, Hre₁⟩, ⟨Hs₂, Hd₂, Ht₂, Hre₂⟩⟩ Hk
  iapply (wp_local m K c false j 1 (by decide) hs₁ (credit_out c false j) (done m false j c) (Entails.of_eq (pay_out m c false j).symm)) $$ [Hs₁ Hd₁ Ht₁ Hre₁]
  · isplitr; · iexact HR
    isplitl [Hs₁]; · iexact Hs₁
    isplitl [Hd₁]; · iexact Hd₁
    isplitl [Ht₁]; · iexact Ht₁
    iexact Hre₁
  iintro Hc₁
  iapply (wp_local m K c true j 1 (by decide) hs₂ (credit_out c true j) (done m true j c) (Entails.of_eq (pay_out m c true j).symm)) $$ [Hs₂ Hd₂ Ht₂ Hre₂]
  · isplitr; · iexact HR
    isplitl [Hs₂]; · iexact Hs₂
    isplitl [Hd₂]; · iexact Hd₂
    isplitl [Ht₂]; · iexact Ht₂
    iexact Hre₂
  iintro Hc₂
  iapply Hk
  isplitl [Hc₁] <;> iassumption

/-- The two waits for them, the last on their cells. -/
theorem wp_outw2 (c : Dev nD) (j : Fin 4) (n : ℕ) (hn : n ≤ 6)
    {sa sb : Space} {A₁ A₂ : Memref sig .tc sa S1024x1024 .f32} {B₁ B₂ : Memref sig .tc sb S1024x1024 .f32}
    (hB₁ : B₁.view.dmaCredit = N) (hB₂ : B₂.view.dmaCredit = N)
    {s₁ s₂ : DmaSem sig} (hs₁ : SemLoc.dma s₁ = csem (cLoc false j)) (hs₂ : SemLoc.dma s₂ = csem (cLoc true j))
    {e₁ : A₁.view.WordExact} {f₁ : B₁.view.WordExact} {e₂ : A₂.view.WordExact} {f₂ : B₂.view.WordExact}
    {α : Type} {Q : α → sProp 𝕄} {k : PUnit → Prog (TpuEff nD τ sig (Elt F) Λ₀ .tc) α} :
    iprop(records m K ∗ levAts L lv ∗ owing (F := F) c (OF c n) ∗ (flying (F := F) c false j ∗ flying (F := F) c true j)
        ∗ atPos ER (cell c (cLoc false j)) 1 ∅ 0 ∗ atPos ER (cell c (cLoc true j)) 1 ∅ 0)
      ⊢ iprop(((owing (F := F) c (OF c n) ∗ outA m c false j ∗ outA m c true j) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 s₁ A₁ B₁ e₁ f₁) fun _ => .op (.waitDma2 s₂ A₂ B₂ e₂ f₂) k) Q) := by
  unfold outA
  iintro ⟨#HR, #Hlev, HO, ⟨Hc₁, Hc₂⟩, Ha₁, Ha₂⟩ Hk
  iapply (wp_wait_close m K c (cLoc false j) (by intro h; cases h) 1 Nat.one_lt_two (le_refl 2) (above_loc c false j n hn) hs₁ hB₁) $$ [Hc₁ HO Ha₁]
  · isplitr; · iexact HR
    isplitr; · iexact Hlev
    isplitl [Hc₁]; · iexact Hc₁
    isplitl [HO]; · iexact HO
    iexact Ha₁
  iintro ⟨HO, Hz₁, Hp₁⟩
  ihave Hp₁ := (Entails.of_eq (pay_out m c false j)) $$ Hp₁
  icases Hp₁ with ⟨Hp₁, Hq₁⟩
  iapply (wp_wait_close m K c (cLoc true j) (by intro h; cases h) 1 Nat.one_lt_two (le_refl 2) (above_loc c true j n hn) hs₂ hB₂) $$ [Hc₂ HO Ha₂]
  · isplitr; · iexact HR
    isplitr; · iexact Hlev
    isplitl [Hc₂]; · iexact Hc₂
    isplitl [HO]; · iexact HO
    iexact Ha₂
  iintro ⟨HO, Hz₂, Hp₂⟩
  ihave Hp₂ := (Entails.of_eq (pay_out m c true j)) $$ Hp₂
  icases Hp₂ with ⟨Hp₂, Hq₂⟩
  iapply Hk
  isplitl [HO]; · iexact HO
  isplitl [Hp₁ Hq₁ Hz₁]
  · isplitl [Hp₁]; · iexact Hp₁
    isplitl [Hq₁]; · iexact Hq₁
    iexact Hz₁
  · isplitl [Hp₂]; · iexact Hp₂
    isplitl [Hq₂]; · iexact Hq₂
    iexact Hz₂

end Cert.KernelIdeal.Hand

end
-- ==== Proof.Body.lean ====
/-
# The kernel's body on device `c`

Executed once at a symbolic device, one rule per group of operations, in program order: the two barrier signals and the wait, the
copies into the working slots, the three reduce steps each with its two additions, the three gather steps, the copies into the
result.
-/
module

public import proofs.«01_k».proof.Proof.Phases

@[expose] public section

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cl → ℕ)

/-- A family over directions and `Fin 4` written out in program order. -/
theorem fam4 (P : Bool × Fin 4 → sProp 𝕄) : bigSep Finset.univ P
    = iprop(P (false, 0) ∗ P (true, 0) ∗ P (false, 1) ∗ P (true, 1) ∗ P (false, 2) ∗ P (true, 2) ∗ P (false, 3) ∗ P (true, 3)) := by
  rw [bigSep_univ_eq_bigSepL [(false, 0), (true, 0), (false, 1), (true, 1), (false, 2), (true, 2), (false, 3), (true, 3)] (by decide) (by decide)]
  simp only [bigSepL_cons_cons, bigSepL_singleton]
  rfl
/-- Directions and three steps, written out. -/
theorem fam3 (P : Bool × Fin 3 → sProp 𝕄) : bigSep Finset.univ P
    = iprop(P (false, 0) ∗ P (true, 0) ∗ P (false, 1) ∗ P (true, 1) ∗ P (false, 2) ∗ P (true, 2)) := by
  rw [bigSep_univ_eq_bigSepL [(false, 0), (true, 0), (false, 1), (true, 1), (false, 2), (true, 2)] (by decide) (by decide)]
  simp only [bigSepL_cons_cons, bigSepL_singleton]
  rfl
/-- Directions and six steps, written out. -/
theorem fam6 (P : Bool × Fin 6 → sProp 𝕄) : bigSep Finset.univ P
    = iprop(P (false, 0) ∗ P (true, 0) ∗ P (false, 1) ∗ P (true, 1) ∗ P (false, 2) ∗ P (true, 2)
      ∗ P (false, 3) ∗ P (true, 3) ∗ P (false, 4) ∗ P (true, 4) ∗ P (false, 5) ∗ P (true, 5)) := by
  rw [bigSep_univ_eq_bigSepL [(false, 0), (true, 0), (false, 1), (true, 1), (false, 2), (true, 2), (false, 3), (true, 3), (false, 4), (true, 4),
    (false, 5), (true, 5)] (by decide) (by decide)]
  simp only [bigSepL_cons_cons, bigSepL_singleton]
  rfl

/-- One on and one back along the ring is the same device; -/
theorem tgt_ft (c : Dev nD) : tgt false (tgt true c) = c := src_tgt true c
/-- So is one back and one on. -/
theorem tgt_tf (c : Dev nD) : tgt true (tgt false c) = c := src_tgt false c

/-- Device `c`'s part in the barrier. -/
def barKeys (c : Dev nD) : sProp 𝕄 :=
  iprop(dutyTok ER (cell (tgt true c) cBar) 0 false ∗ dutyTok ER (cell (tgt false c) cBar) 0 true ∗ cred (tallyAt (cell c cBar) () 2)
    ∗ atPos ER (cell c cBar) 0 ∅ 0)
/-- What the second phase of local copies needs beside the slots. -/
def outKeys (c : Dev nD) (δ : Bool) (j : Fin 4) : sProp 𝕄 :=
  iprop(any (F := F) c (outM c δ j) ∗ dutyTok ER (cell c (cLoc δ j)) 1 false ∗ atPos ER (cell c (cLoc δ j)) 0 ∅ 0)
/-- A step's two counters at zero. -/
def zeros (c : Dev nD) (δ : Bool) (s : Fin 6) : sProp 𝕄 := iprop(semVal (cell c (cSend δ s)) 0 ∗ semVal (cell c (cRecv δ s)) 0)

/-- What the body starts from. -/
def bodyIn (c : Dev nD) : sProp 𝕄 :=
  iprop(records m K ∗ levAts L lv ∗ owing (F := F) c (O₀ c) ∗ barKeys (F := F) c ∗ landing (F := F) false c ∗ landing (F := F) true c
    ∗ (bigSep Finset.univ fun p : Bool × Fin 4 => inB m c p.1 p.2) ∗ (bigSep Finset.univ fun p : Bool × Fin 4 => outKeys (F := F) c p.1 p.2)
    ∗ (bigSep Finset.univ fun p : Bool × Fin 6 => keys (F := F) c p.1 p.2))
/-- What it ends with: the input's chunks as they were, the result's at the sums, the working and landing slots, every counter of
its cells at zero. -/
def bodyOut (c : Dev nD) : sProp 𝕄 :=
  iprop(owing (F := F) c 0 ∗ semVal (cell c cBar) 0
    ∗ (bigSep Finset.univ fun p : Bool × Fin 4 => own c (xM c p.1 p.2) (x0 m p.1 p.2 c)) ∗ (bigSep Finset.univ fun p : Bool × Fin 4 => outA m c p.1 p.2)
    ∗ (bigSep Finset.univ fun p : Bool × Fin 3 => any (F := F) c (tmpM p.1 p.2)) ∗ (bigSep Finset.univ fun p : Bool × Fin 6 => zeros (F := F) c p.1 p.2))

/-- What a step starts from, put together from its parts; -/
theorem mk_before (c : Dev nD) (δ : Bool) (s : Fin 6) (j : Fin 4) (hj : srcSlot s = j) (X : Chunk F) (hX : X = acc m δ s.val c)
    (M : Memref sig .tc .vmem S1024x1024 .f32) (hM : dstM δ s = M) (R : sProp 𝕄) (hR : R = rider (F := F) δ s c) :
    iprop(own c (slotM δ j) X ∗ any (F := F) (tgt δ c) M ∗ R ∗ keys (F := F) c δ s) ⊢ before m c δ s := by
  subst hj hX hM hR; exact Entails.of_eq rfl
/-- And what it ends with, taken apart. -/
theorem after_elim (c : Dev nD) (δ : Bool) (s : Fin 6) (j : Fin 4) (hj : srcSlot s = j)
    (M : Memref sig .tc .vmem S1024x1024 .f32) (hM : dstM δ s = M) (Y : Chunk F) (hY : acc m δ s.val (src δ c) = Y) (R : sProp 𝕄) (hR : rider (F := F) δ s (src δ c) = R) :
    after m c δ s ⊢ iprop(own c (slotM δ j) (acc m δ s.val c) ∗ own c M Y ∗ R ∗ zeros (F := F) c δ s) := by
  subst hj hM hY hR; exact Entails.of_eq rfl

/-- The barrier: the landing slots go to the neighbours, theirs come. -/
theorem wp_barrier (c : Dev nD) {n₁ n₂ : Dev nD} (h₁ : n₁ = tgt true c) (h₂ : n₂ = tgt false c)
    {α : Type} {Q : α → sProp 𝕄} {k : PUnit → Prog (TpuEff nD τ sig (Elt F) Λ₀ .tc) α} {w₁ w₂ w₃ : ℕ} (hw₁ : 1 = w₁) (hw₂ : 1 = w₂) (hw₃ : 2 = w₃) :
    iprop(records m K ∗ levAts L lv ∗ owing (F := F) c (O₀ c) ∗ barKeys (F := F) c ∗ landing (F := F) false c ∗ landing (F := F) true c)
      ⊢ iprop(((owing (F := F) c (OF c 6) ∗ semVal (cell c cBar) 0 ∗ landing (F := F) false (tgt false c) ∗ landing (F := F) true (tgt true c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n₁ : Thread nD τ) barS w₁) fun _ => .op (.semSignal (Dev.tc n₂ : Thread nD τ) barS w₂) fun _ =>
                .op (.semWait barS w₃) k) Q) := by
  subst h₁ h₂ hw₁ hw₂ hw₃
  unfold barKeys
  iintro ⟨#HR, #Hlev, ⟨%W, HO⟩, ⟨Ht₁, Ht₂, Hc, Hat⟩, Hl₁, Hl₂⟩ Hk
  iapply (Rounds.wp_signal 𝒱₀ ER (sched m) (c : Thread nD τ) none (dst := (tgt true c : Thread nD τ)) (κ := K (tgt true c, cBar)) (r := 0)
      (d := false) (by rw [show (((tgt true c : Thread nD τ)), SemLoc.reg barS) = cell (tgt true c) cBar from rfl, duties_cell]; exact Finset.mem_univ _)
      ((amount_cell m (tgt true c) cBar 0 false).trans rfl) () (O₁ c) rfl) $$ [HO Ht₁ Hl₁]
  · isplitr; · iapply (inv_of m K (tgt true c) cBar); iexact HR
    isplitl [HO]; · iexact HO
    isplitl [Ht₁]; · iexact Ht₁
    isplitl [Hl₁]
    · rw [show (((tgt true c : Thread nD τ)), SemLoc.reg barS) = cell (tgt true c) cBar from rfl, payload_cell,
        show payOf m cBar (tgt true c) 0 false = landing (F := F) false (tgt false (tgt true c)) from rfl, tgt_ft c]
      iexact Hl₁
    · iapply (reached_of m K (tgt true c) cBar); iexact HR
  iintro HO
  iapply (Rounds.wp_signal 𝒱₀ ER (sched m) (c : Thread nD τ) none (dst := (tgt false c : Thread nD τ)) (κ := K (tgt false c, cBar)) (r := 0)
      (d := true) (by rw [show (((tgt false c : Thread nD τ)), SemLoc.reg barS) = cell (tgt false c) cBar from rfl, duties_cell]; exact Finset.mem_univ _)
      ((amount_cell m (tgt false c) cBar 0 true).trans rfl) () (OF c 6) rfl) $$ [HO Ht₂ Hl₂]
  · isplitr; · iapply (inv_of m K (tgt false c) cBar); iexact HR
    isplitl [HO]; · iexact HO
    isplitl [Ht₂]; · iexact Ht₂
    isplitl [Hl₂]
    · rw [show (((tgt false c : Thread nD τ)), SemLoc.reg barS) = cell (tgt false c) cBar from rfl, payload_cell,
        show payOf m cBar (tgt false c) 0 true = landing (F := F) true (tgt true (tgt false c)) from rfl, tgt_tf c]
      iexact Hl₂
    · iapply (reached_of m K (tgt false c) cBar); iexact HR
  iintro HO
  iapply (Rounds.wp_wait_rest_token 𝒱₀ ER (sched m) (c : Thread nD τ) none (κ := K (c, cBar))
      (wpE_semWait_eq 𝒱₀ (c : Thread nD τ) none Set.univ) (Set.mem_univ _) () (O := OF c 6) (W := W) (R := 0) (m := 0) (T := ∅)
      (by rw [Nat.zero_add]; exact (expect_bar m c).symm)) $$ [Hc HO Hat]
  · isplitr; · iapply (inv_of m K c cBar); iexact HR
    isplitl [Hc]; · iexact Hc
    isplitl [HO]; · iexact HO
    isplitr; · iapply (mayWait_cell (F := F) c cBar _ (above_bar c)); iexact Hlev
    iexact Hat
  iintro ⟨HO, Hat, -, Hpay⟩
  have hrest : bigSep ((sched (F := F) m).duties ((c : Thread nD τ), SemLoc.reg barS) 0 \ ∅)
      (fun d => (sched (F := F) m).payload ((c : Thread nD τ), SemLoc.reg barS) 0 d)
        = iprop(landing (F := F) false (tgt false c) ∗ landing (F := F) true (tgt true c)) := rest_bar m c
  ihave Hp := (Entails.of_eq hrest) $$ Hpay
  icases Hp with ⟨Hl₁, Hl₂⟩
  imod (Rounds.cell_close ER (sched m) (Set.mem_univ (K (c, cBar))) (fun h => h) (R := 0 + 1) (duties_later m c cBar)) $$ [Hat] with Hz
  · isplitr; · iapply (inv_of m K c cBar); iexact HR
    iexact Hat
  iapply Hk
  isplitl [HO]; · iexists _; iexact HO
  isplitl [Hz]; · iexact Hz
  isplitl [Hl₁] <;> iassumption

/-! The payloads are the sum with the landed chunk laid out as a matrix. -/

/-- Each of the six additions adds a landed chunk to a working slot, element by element: the first, -/
theorem pay1_eq (v : Vec F S1024x1024 .f32) (t : Vec F S1x1024x1024 .f32) :
    k0_pay1 v t = addf v (shapeCast S1024x1024 t shapeCasts_S1x1024x1024_S1024x1024) := by unfold k0_pay1; exact funext fun i => congrArg (addf v _) (Shape.reshapeEquiv_self _ i)
/-- The second, -/
theorem pay2_eq (v : Vec F S1024x1024 .f32) (t : Vec F S1x1024x1024 .f32) :
    k0_pay2 v t = addf v (shapeCast S1024x1024 t shapeCasts_S1x1024x1024_S1024x1024) := by unfold k0_pay2; exact funext fun i => congrArg (addf v _) (Shape.reshapeEquiv_self _ i)
/-- The third, -/
theorem pay3_eq (v : Vec F S1024x1024 .f32) (t : Vec F S1x1024x1024 .f32) :
    k0_pay3 v t = addf v (shapeCast S1024x1024 t shapeCasts_S1x1024x1024_S1024x1024) := by unfold k0_pay3; exact funext fun i => congrArg (addf v _) (Shape.reshapeEquiv_self _ i)
/-- The fourth, -/
theorem pay4_eq (v : Vec F S1024x1024 .f32) (t : Vec F S1x1024x1024 .f32) :
    k0_pay4 v t = addf v (shapeCast S1024x1024 t shapeCasts_S1x1024x1024_S1024x1024) := by unfold k0_pay4; exact funext fun i => congrArg (addf v _) (Shape.reshapeEquiv_self _ i)
/-- The fifth, -/
theorem pay5_eq (v : Vec F S1024x1024 .f32) (t : Vec F S1x1024x1024 .f32) :
    k0_pay5 v t = addf v (shapeCast S1024x1024 t shapeCasts_S1x1024x1024_S1024x1024) := by unfold k0_pay5; exact funext fun i => congrArg (addf v _) (Shape.reshapeEquiv_self _ i)
/-- And the sixth. -/
theorem pay6_eq (v : Vec F S1024x1024 .f32) (t : Vec F S1x1024x1024 .f32) :
    k0_pay6 v t = addf v (shapeCast S1024x1024 t shapeCasts_S1x1024x1024_S1024x1024) := by unfold k0_pay6; exact funext fun i => congrArg (addf v _) (Shape.reshapeEquiv_self _ i)

/-- The kernel's body at the arguments the call gives it. -/
abbrev bodyProg : Prog (TpuEff nD τ sig (Elt F) Λ₀ .tc) PUnit :=
  cc0_body (Memref.whole main_arg0) (Memref.isWhole_whole _) (Memref.whole main_v1) (Memref.isWhole_whole _)
    (Memref.whole cc0_scratch0) (Memref.isWhole_whole _) (Memref.whole cc0_scratch1) (Memref.isWhole_whole _)
    (Memref.whole cc0_scratch2) (Memref.isWhole_whole _) cc0_scratch3 cc0_scratch4 cc0_scratch5 cc0_scratch6 cc0_scratch7

set_option maxHeartbeats 1600000 in
set_option maxRecDepth 8000 in
/-- The body, from `bodyIn` to `bodyOut`. -/
theorem sound_body (c : Dev nD) (Kt : PUnit → sProp 𝕄) :
    iprop(bodyIn m K c ∗ (bodyOut m c -∗ Kt ⟨⟩))
      ⊢ wp frame (wpE (defs₀ (F := F)) 𝒱₀ (c : Thread nD τ) none) Set.univ (bodyProg (F := F)) Kt := by
  unfold bodyProg
  simp only [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel
  simp only [semSignalWord, semWaitWord, Prog.lift, Prog.bind_op, Prog.bind_ret, Prog.pure_eq_ret, wp_deviceId]
  unfold bodyIn
  rw [fam4, fam4, fam6]
  iintro ⟨⟨#HR, #Hlev, HO, Hbk, Hl₁, Hl₂, ⟨Hif0, Hit0, Hif1, Hit1, Hif2, Hit2, Hif3, Hit3⟩, ⟨Hof0, Hot0, Hof1, Hot1, Hof2, Hot2, Hof3, Hot3⟩, ⟨Hkf0, Hkt0, Hkf1, Hkt1, Hkf2, Hkt2, Hkf3, Hkt3, Hkf4, Hkt4, Hkf5, Hkt5⟩⟩, Hk⟩
  iapply (wp_barrier m K c (dev1_eq c) (dev2_eq c) (by rfl) (by rfl) (by rfl)) $$ [HO Hbk Hl₁ Hl₂]
  · isplitr; · iexact HR
    isplitr; · iexact Hlev
    isplitl [HO]; · iexact HO
    isplitl [Hbk]; · iexact Hbk
    isplitl [Hl₁] <;> iassumption
  iintro ⟨HO, HzB, Hl₁, Hl₂⟩
  iapply (wp_in2 m K c 0 rfl rfl rfl rfl rfl rfl) $$ [Hif0 Hit0]
  · isplitr; · iexact HR
    isplitl [Hif0] <;> iassumption
  iintro Hfl0
  iapply (wp_in2 m K c 1 rfl rfl rfl rfl rfl rfl) $$ [Hif1 Hit1]
  · isplitr; · iexact HR
    isplitl [Hif1] <;> iassumption
  iintro Hfl1
  iapply (wp_in2 m K c 2 rfl rfl rfl rfl rfl rfl) $$ [Hif2 Hit2]
  · isplitr; · iexact HR
    isplitl [Hif2] <;> iassumption
  iintro Hfl2
  iapply (wp_in2 m K c 3 rfl rfl rfl rfl rfl rfl) $$ [Hif3 Hit3]
  · isplitr; · iexact HR
    isplitl [Hif3] <;> iassumption
  iintro Hfl3
  unfold outKeys
  icases Hof0 with ⟨Hof0, Htkf0, Hatf0⟩
  icases Hot0 with ⟨Hot0, Htkt0, Hatt0⟩
  icases Hof1 with ⟨Hof1, Htkf1, Hatf1⟩
  icases Hot1 with ⟨Hot1, Htkt1, Hatt1⟩
  icases Hof2 with ⟨Hof2, Htkf2, Hatf2⟩
  icases Hot2 with ⟨Hot2, Htkt2, Hatt2⟩
  icases Hof3 with ⟨Hof3, Htkf3, Hatf3⟩
  icases Hot3 with ⟨Hot3, Htkt3, Hatt3⟩
  iapply (wp_inw2 m K c 0 6 (le_refl 6) (credit_slot false 0) (credit_slot true 0) rfl rfl) $$ [HO Hfl0 Hatf0 Hatt0]
  · isplitr; · iexact HR
    isplitr; · iexact Hlev
    isplitl [HO]; · iexact HO
    isplitl [Hfl0]; · iexact Hfl0
    isplitl [Hatf0] <;> iassumption
  iintro ⟨HO, Hif0, Hit0⟩
  iapply (wp_inw2 m K c 1 6 (le_refl 6) (credit_slot false 1) (credit_slot true 1) rfl rfl) $$ [HO Hfl1 Hatf1 Hatt1]
  · isplitr; · iexact HR
    isplitr; · iexact Hlev
    isplitl [HO]; · iexact HO
    isplitl [Hfl1]; · iexact Hfl1
    isplitl [Hatf1] <;> iassumption
  iintro ⟨HO, Hif1, Hit1⟩
  iapply (wp_inw2 m K c 2 6 (le_refl 6) (credit_slot false 2) (credit_slot true 2) rfl rfl) $$ [HO Hfl2 Hatf2 Hatt2]
  · isplitr; · iexact HR
    isplitr; · iexact Hlev
    isplitl [HO]; · iexact HO
    isplitl [Hfl2]; · iexact Hfl2
    isplitl [Hatf2] <;> iassumption
  iintro ⟨HO, Hif2, Hit2⟩
  iapply (wp_inw2 m K c 3 6 (le_refl 6) (credit_slot false 3) (credit_slot true 3) rfl rfl) $$ [HO Hfl3 Hatf3 Hatt3]
  · isplitr; · iexact HR
    isplitr; · iexact Hlev
    isplitl [HO]; · iexact HO
    isplitl [Hfl3]; · iexact Hfl3
    isplitl [Hatf3] <;> iassumption
  iintro ⟨HO, Hif3, Hit3⟩
  unfold inA
  icases Hif0 with ⟨Hwf0, Hxf0, Hatf0, Href0⟩
  icases Hit0 with ⟨Hwt0, Hxt0, Hatt0, Hret0⟩
  icases Hif1 with ⟨Hwf1, Hxf1, Hatf1, Href1⟩
  icases Hit1 with ⟨Hwt1, Hxt1, Hatt1, Hret1⟩
  icases Hif2 with ⟨Hwf2, Hxf2, Hatf2, Href2⟩
  icases Hit2 with ⟨Hwt2, Hxt2, Hatt2, Hret2⟩
  icases Hif3 with ⟨Hwf3, Hxf3, Hatf3, Href3⟩
  icases Hit3 with ⟨Hwt3, Hxt3, Hatt3, Hret3⟩
  unfold landing
  icases Hl₁ with ⟨Hdf0, Hdf1, Hdf2⟩
  icases Hl₂ with ⟨Hdt0, Hdt1, Hdt2⟩
  ihave Hbf := (mk_before m c false 0 0 rfl (acc m false 0 c) rfl (tmpM false 0) rfl (iprop(emp)) rfl) $$ [Hwf0 Hdf0 Hkf0]
  · isplitl [Hwf0]; · iexact Hwf0
    isplitl [Hdf0]; · iexact Hdf0
    isplitr [Hkf0]
    · iempintro
    · iexact Hkf0
  ihave Hbt := (mk_before m c true 0 0 rfl (acc m true 0 c) rfl (tmpM true 0) rfl (iprop(emp)) rfl) $$ [Hwt0 Hdt0 Hkt0]
  · isplitl [Hwt0]; · iexact Hwt0
    isplitl [Hdt0]; · iexact Hdt0
    isplitr [Hkt0]
    · iempintro
    · iexact Hkt0
  iapply (wp_step m K c 0 5 rfl (dev3_eq c) (dev4_eq c) (rfl : slotM false 0 = _) (rfl : tmpM false 0 = _)
      (rfl : slotM true 0 = _) (rfl : tmpM true 0 = _) rfl rfl rfl rfl rfl rfl rfl rfl
      (credit_slot false 0) (credit_tmp false 0) (credit_slot true 0) (credit_tmp true 0)) $$ [HO Hbf Hbt]
  · isplitr; · iexact HR
    isplitr; · iexact Hlev
    isplitl [HO]; · iexact HO
    isplitl [Hbf] <;> iassumption
  iintro ⟨HO, Haf, Hat⟩
  ihave Haf := (after_elim m c false 0 0 rfl (tmpM false 0) rfl (acc m false 0 (src false c)) rfl (iprop(emp)) rfl) $$ Haf
  icases Haf with ⟨Hgf0, Hmf0, -, Hzf0⟩
  ihave Hat := (after_elim m c true 0 0 rfl (tmpM true 0) rfl (acc m true 0 (src true c)) rfl (iprop(emp)) rfl) $$ Hat
  icases Hat with ⟨Hgt0, Hmt0, -, Hzt0⟩
  iapply (wp_add c false 3 0 (V := x0 m false 3 c) (T := acc m false 0 (src false c)) (pay1_eq) rfl rfl rfl) $$ [Hwf3 Hmf0]
  · isplitl [Hwf3] <;> iassumption
  iintro ⟨Hwf3, Hmf0⟩
  iapply (wp_add c true 3 0 (V := x0 m true 3 c) (T := acc m true 0 (src true c)) (pay2_eq) rfl rfl rfl) $$ [Hwt3 Hmt0]
  · isplitl [Hwt3] <;> iassumption
  iintro ⟨Hwt3, Hmt0⟩
  ihave Hbf := (mk_before m c false 1 3 rfl (acc m false 1 c) rfl (tmpM false 1) rfl (any (F := F) c (slotM true 0)) rfl) $$ [Hwf3 Hdf1 Hkf1 Hgt0]
  · isplitl [Hwf3]; · iexact Hwf3
    isplitl [Hdf1]; · iexact Hdf1
    isplitr [Hkf1]
    · iexists _; iexact Hgt0
    · iexact Hkf1
  ihave Hbt := (mk_before m c true 1 3 rfl (acc m true 1 c) rfl (tmpM true 1) rfl (any (F := F) c (slotM false 0)) rfl) $$ [Hwt3 Hdt1 Hkt1 Hgf0]
  · isplitl [Hwt3]; · iexact Hwt3
    isplitl [Hdt1]; · iexact Hdt1
    isplitr [Hkt1]
    · iexists _; iexact Hgf0
    · iexact Hkt1
  iapply (wp_step m K c 1 4 rfl (dev5_eq c) (dev6_eq c) (rfl : slotM false 3 = _) (rfl : tmpM false 1 = _)
      (rfl : slotM true 3 = _) (rfl : tmpM true 1 = _) rfl rfl rfl rfl rfl rfl rfl rfl
      (credit_slot false 3) (credit_tmp false 1) (credit_slot true 3) (credit_tmp true 1)) $$ [HO Hbf Hbt]
  · isplitr; · iexact HR
    isplitr; · iexact Hlev
    isplitl [HO]; · iexact HO
    isplitl [Hbf] <;> iassumption
  iintro ⟨HO, Haf, Hat⟩
  ihave Haf := (after_elim m c false 1 3 rfl (tmpM false 1) rfl (acc m false 1 (src false c)) rfl (any (F := F) (tgt true c) (slotM true 0)) rfl) $$ Haf
  icases Haf with ⟨Hgf3, Hmf1, Hdt3, Hzf1⟩
  ihave Hat := (after_elim m c true 1 3 rfl (tmpM true 1) rfl (acc m true 1 (src true c)) rfl (any (F := F) (tgt false c) (slotM false 0)) rfl) $$ Hat
  icases Hat with ⟨Hgt3, Hmt1, Hdf3, Hzt1⟩
  iapply (wp_add c false 2 1 (V := x0 m false 2 c) (T := acc m false 1 (src false c)) (pay3_eq) rfl rfl rfl) $$ [Hwf2 Hmf1]
  · isplitl [Hwf2] <;> iassumption
  iintro ⟨Hwf2, Hmf1⟩
  iapply (wp_add c true 2 1 (V := x0 m true 2 c) (T := acc m true 1 (src true c)) (pay4_eq) rfl rfl rfl) $$ [Hwt2 Hmt1]
  · isplitl [Hwt2] <;> iassumption
  iintro ⟨Hwt2, Hmt1⟩
  ihave Hbf := (mk_before m c false 2 2 rfl (acc m false 2 c) rfl (tmpM false 2) rfl (any (F := F) c (slotM true 3)) rfl) $$ [Hwf2 Hdf2 Hkf2 Hgt3]
  · isplitl [Hwf2]; · iexact Hwf2
    isplitl [Hdf2]; · iexact Hdf2
    isplitr [Hkf2]
    · iexists _; iexact Hgt3
    · iexact Hkf2
  ihave Hbt := (mk_before m c true 2 2 rfl (acc m true 2 c) rfl (tmpM true 2) rfl (any (F := F) c (slotM false 3)) rfl) $$ [Hwt2 Hdt2 Hkt2 Hgf3]
  · isplitl [Hwt2]; · iexact Hwt2
    isplitl [Hdt2]; · iexact Hdt2
    isplitr [Hkt2]
    · iexists _; iexact Hgf3
    · iexact Hkt2
  iapply (wp_step m K c 2 3 rfl (dev7_eq c) (dev8_eq c) (rfl : slotM false 2 = _) (rfl : tmpM false 2 = _)
      (rfl : slotM true 2 = _) (rfl : tmpM true 2 = _) rfl rfl rfl rfl rfl rfl rfl rfl
      (credit_slot false 2) (credit_tmp false 2) (credit_slot true 2) (credit_tmp true 2)) $$ [HO Hbf Hbt]
  · isplitr; · iexact HR
    isplitr; · iexact Hlev
    isplitl [HO]; · iexact HO
    isplitl [Hbf] <;> iassumption
  iintro ⟨HO, Haf, Hat⟩
  ihave Haf := (after_elim m c false 2 2 rfl (tmpM false 2) rfl (acc m false 2 (src false c)) rfl (any (F := F) (tgt true c) (slotM true 3)) rfl) $$ Haf
  icases Haf with ⟨Hgf2, Hmf2, Hdt4, Hzf2⟩
  ihave Hat := (after_elim m c true 2 2 rfl (tmpM true 2) rfl (acc m true 2 (src true c)) rfl (any (F := F) (tgt false c) (slotM false 3)) rfl) $$ Hat
  icases Hat with ⟨Hgt2, Hmt2, Hdf4, Hzt2⟩
  iapply (wp_add c false 1 2 (V := x0 m false 1 c) (T := acc m false 2 (src false c)) (pay5_eq) rfl rfl rfl) $$ [Hwf1 Hmf2]
  · isplitl [Hwf1] <;> iassumption
  iintro ⟨Hwf1, Hmf2⟩
  iapply (wp_add c true 1 2 (V := x0 m true 1 c) (T := acc m true 2 (src true c)) (pay6_eq) rfl rfl rfl) $$ [Hwt1 Hmt2]
  · isplitl [Hwt1] <;> iassumption
  iintro ⟨Hwt1, Hmt2⟩
  ihave Hbf := (mk_before m c false 3 1 rfl (acc m false 3 c) rfl (slotM false 0) rfl (any (F := F) c (slotM true 2)) rfl) $$ [Hwf1 Hdf3 Hkf3 Hgt2]
  · isplitl [Hwf1]; · iexact Hwf1
    isplitl [Hdf3]; · iexact Hdf3
    isplitr [Hkf3]
    · iexists _; iexact Hgt2
    · iexact Hkf3
  ihave Hbt := (mk_before m c true 3 1 rfl (acc m true 3 c) rfl (slotM true 0) rfl (any (F := F) c (slotM false 2)) rfl) $$ [Hwt1 Hdt3 Hkt3 Hgf2]
  · isplitl [Hwt1]; · iexact Hwt1
    isplitl [Hdt3]; · iexact Hdt3
    isplitr [Hkt3]
    · iexists _; iexact Hgf2
    · iexact Hkt3
  iapply (wp_step m K c 3 2 rfl (dev9_eq c) (dev10_eq c) (rfl : slotM false 1 = _) (rfl : slotM false 0 = _)
      (rfl : slotM true 1 = _) (rfl : slotM true 0 = _) rfl rfl rfl rfl rfl rfl rfl rfl
      (credit_slot false 1) (credit_slot false 0) (credit_slot true 1) (credit_slot true 0)) $$ [HO Hbf Hbt]
  · isplitr; · iexact HR
    isplitr; · iexact Hlev
    isplitl [HO]; · iexact HO
    isplitl [Hbf] <;> iassumption
  iintro ⟨HO, Haf, Hat⟩
  ihave Haf := (after_elim m c false 3 1 rfl (slotM false 0) rfl (acc m false 4 c) rfl (any (F := F) (tgt true c) (slotM true 2)) rfl) $$ Haf
  icases Haf with ⟨Hwf1, Hwf0, Hdt5, Hzf3⟩
  ihave Hat := (after_elim m c true 3 1 rfl (slotM true 0) rfl (acc m true 4 c) rfl (any (F := F) (tgt false c) (slotM false 2)) rfl) $$ Hat
  icases Hat with ⟨Hwt1, Hwt0, Hdf5, Hzt3⟩
  ihave Hbf := (mk_before m c false 4 0 rfl (acc m false 4 c) rfl (slotM false 3) rfl (iprop(emp)) rfl) $$ [Hwf0 Hdf4 Hkf4]
  · isplitl [Hwf0]; · iexact Hwf0
    isplitl [Hdf4]; · iexact Hdf4
    isplitr [Hkf4]
    · iempintro
    · iexact Hkf4
  ihave Hbt := (mk_before m c true 4 0 rfl (acc m true 4 c) rfl (slotM true 3) rfl (iprop(emp)) rfl) $$ [Hwt0 Hdt4 Hkt4]
  · isplitl [Hwt0]; · iexact Hwt0
    isplitl [Hdt4]; · iexact Hdt4
    isplitr [Hkt4]
    · iempintro
    · iexact Hkt4
  iapply (wp_step m K c 4 1 rfl (dev11_eq c) (dev12_eq c) (rfl : slotM false 0 = _) (rfl : slotM false 3 = _)
      (rfl : slotM true 0 = _) (rfl : slotM true 3 = _) rfl rfl rfl rfl rfl rfl rfl rfl
      (credit_slot false 0) (credit_slot false 3) (credit_slot true 0) (credit_slot true 3)) $$ [HO Hbf Hbt]
  · isplitr; · iexact HR
    isplitr; · iexact Hlev
    isplitl [HO]; · iexact HO
    isplitl [Hbf] <;> iassumption
  iintro ⟨HO, Haf, Hat⟩
  ihave Haf := (after_elim m c false 4 0 rfl (slotM false 3) rfl (acc m false 5 c) rfl (iprop(emp)) rfl) $$ Haf
  icases Haf with ⟨Hwf0, Hwf3, -, Hzf4⟩
  ihave Hat := (after_elim m c true 4 0 rfl (slotM true 3) rfl (acc m true 5 c) rfl (iprop(emp)) rfl) $$ Hat
  icases Hat with ⟨Hwt0, Hwt3, -, Hzt4⟩
  ihave Hbf := (mk_before m c false 5 3 rfl (acc m false 5 c) rfl (slotM false 2) rfl (iprop(emp)) rfl) $$ [Hwf3 Hdf5 Hkf5]
  · isplitl [Hwf3]; · iexact Hwf3
    isplitl [Hdf5]; · iexact Hdf5
    isplitr [Hkf5]
    · iempintro
    · iexact Hkf5
  ihave Hbt := (mk_before m c true 5 3 rfl (acc m true 5 c) rfl (slotM true 2) rfl (iprop(emp)) rfl) $$ [Hwt3 Hdt5 Hkt5]
  · isplitl [Hwt3]; · iexact Hwt3
    isplitl [Hdt5]; · iexact Hdt5
    isplitr [Hkt5]
    · iempintro
    · iexact Hkt5
  iapply (wp_step m K c 5 0 rfl (dev13_eq c) (dev14_eq c) (rfl : slotM false 3 = _) (rfl : slotM false 2 = _)
      (rfl : slotM true 3 = _) (rfl : slotM true 2 = _) rfl rfl rfl rfl rfl rfl rfl rfl
      (credit_slot false 3) (credit_slot false 2) (credit_slot true 3) (credit_slot true 2)) $$ [HO Hbf Hbt]
  · isplitr; · iexact HR
    isplitr; · iexact Hlev
    isplitl [HO]; · iexact HO
    isplitl [Hbf] <;> iassumption
  iintro ⟨HO, Haf, Hat⟩
  ihave Haf := (after_elim m c false 5 3 rfl (slotM false 2) rfl (acc m false 6 c) rfl (iprop(emp)) rfl) $$ Haf
  icases Haf with ⟨Hwf3, Hwf2, -, Hzf5⟩
  ihave Hat := (after_elim m c true 5 3 rfl (slotM true 2) rfl (acc m true 6 c) rfl (iprop(emp)) rfl) $$ Hat
  icases Hat with ⟨Hwt3, Hwt2, -, Hzt5⟩
  iapply (wp_out2 m K c 0 rfl rfl rfl rfl rfl rfl) $$ [Hwf0 Hof0 Htkf0 Href0 Hwt0 Hot0 Htkt0 Hret0]
  · isplitr; · iexact HR
    isplitl [Hwf0 Hof0 Htkf0 Href0]
    · unfold outB
      isplitl [Hwf0]; · iexact Hwf0
      isplitl [Hof0]; · iexact Hof0
      isplitl [Htkf0] <;> iassumption
    · unfold outB
      isplitl [Hwt0]; · iexact Hwt0
      isplitl [Hot0]; · iexact Hot0
      isplitl [Htkt0] <;> iassumption
  iintro Hfl0
  iapply (wp_out2 m K c 1 rfl rfl rfl rfl rfl rfl) $$ [Hwf1 Hof1 Htkf1 Href1 Hwt1 Hot1 Htkt1 Hret1]
  · isplitr; · iexact HR
    isplitl [Hwf1 Hof1 Htkf1 Href1]
    · unfold outB
      isplitl [Hwf1]; · iexact Hwf1
      isplitl [Hof1]; · iexact Hof1
      isplitl [Htkf1] <;> iassumption
    · unfold outB
      isplitl [Hwt1]; · iexact Hwt1
      isplitl [Hot1]; · iexact Hot1
      isplitl [Htkt1] <;> iassumption
  iintro Hfl1
  iapply (wp_out2 m K c 2 rfl rfl rfl rfl rfl rfl) $$ [Hwf2 Hof2 Htkf2 Href2 Hwt2 Hot2 Htkt2 Hret2]
  · isplitr; · iexact HR
    isplitl [Hwf2 Hof2 Htkf2 Href2]
    · unfold outB
      isplitl [Hwf2]; · iexact Hwf2
      isplitl [Hof2]; · iexact Hof2
      isplitl [Htkf2] <;> iassumption
    · unfold outB
      isplitl [Hwt2]; · iexact Hwt2
      isplitl [Hot2]; · iexact Hot2
      isplitl [Htkt2] <;> iassumption
  iintro Hfl2
  iapply (wp_out2 m K c 3 rfl rfl rfl rfl rfl rfl) $$ [Hwf3 Hof3 Htkf3 Href3 Hwt3 Hot3 Htkt3 Hret3]
  · isplitr; · iexact HR
    isplitl [Hwf3 Hof3 Htkf3 Href3]
    · unfold outB
      isplitl [Hwf3]; · iexact Hwf3
      isplitl [Hof3]; · iexact Hof3
      isplitl [Htkf3] <;> iassumption
    · unfold outB
      isplitl [Hwt3]; · iexact Hwt3
      isplitl [Hot3]; · iexact Hot3
      isplitl [Htkt3] <;> iassumption
  iintro Hfl3
  iapply (wp_outw2 m K c 0 0 (Nat.zero_le 6) (credit_out c false 0) (credit_out c true 0) rfl rfl) $$ [HO Hfl0 Hatf0 Hatt0]
  · isplitr; · iexact HR
    isplitr; · iexact Hlev
    isplitl [HO]; · iexact HO
    isplitl [Hfl0]; · iexact Hfl0
    isplitl [Hatf0] <;> iassumption
  iintro ⟨HO, Hof0, Hot0⟩
  iapply (wp_outw2 m K c 1 0 (Nat.zero_le 6) (credit_out c false 1) (credit_out c true 1) rfl rfl) $$ [HO Hfl1 Hatf1 Hatt1]
  · isplitr; · iexact HR
    isplitr; · iexact Hlev
    isplitl [HO]; · iexact HO
    isplitl [Hfl1]; · iexact Hfl1
    isplitl [Hatf1] <;> iassumption
  iintro ⟨HO, Hof1, Hot1⟩
  iapply (wp_outw2 m K c 2 0 (Nat.zero_le 6) (credit_out c false 2) (credit_out c true 2) rfl rfl) $$ [HO Hfl2 Hatf2 Hatt2]
  · isplitr; · iexact HR
    isplitr; · iexact Hlev
    isplitl [HO]; · iexact HO
    isplitl [Hfl2]; · iexact Hfl2
    isplitl [Hatf2] <;> iassumption
  iintro ⟨HO, Hof2, Hot2⟩
  iapply (wp_outw2 m K c 3 0 (Nat.zero_le 6) (credit_out c false 3) (credit_out c true 3) rfl rfl) $$ [HO Hfl3 Hatf3 Hatt3]
  · isplitr; · iexact HR
    isplitr; · iexact Hlev
    isplitl [HO]; · iexact HO
    isplitl [Hfl3]; · iexact Hfl3
    isplitl [Hatf3] <;> iassumption
  iintro ⟨HO, Hof3, Hot3⟩
  rw [wp_ret]; imodintro
  iapply Hk
  unfold bodyOut
  rw [fam4, fam4, fam3, fam6]
  isplitl [HO]; · iexact HO
  isplitl [HzB]; · iexact HzB
  isplitl [Hxf0 Hxt0 Hxf1 Hxt1 Hxf2 Hxt2 Hxf3 Hxt3]
  · isplitl [Hxf0]; · iexact Hxf0
    isplitl [Hxt0]; · iexact Hxt0
    isplitl [Hxf1]; · iexact Hxf1
    isplitl [Hxt1]; · iexact Hxt1
    isplitl [Hxf2]; · iexact Hxf2
    isplitl [Hxt2]; · iexact Hxt2
    isplitl [Hxf3]; · iexact Hxf3
    iexact Hxt3
  isplitl [Hof0 Hot0 Hof1 Hot1 Hof2 Hot2 Hof3 Hot3]
  · isplitl [Hof0]; · iexact Hof0
    isplitl [Hot0]; · iexact Hot0
    isplitl [Hof1]; · iexact Hof1
    isplitl [Hot1]; · iexact Hot1
    isplitl [Hof2]; · iexact Hof2
    isplitl [Hot2]; · iexact Hot2
    isplitl [Hof3]; · iexact Hof3
    iexact Hot3
  isplitl [Hmf0 Hmt0 Hmf1 Hmt1 Hmf2 Hmt2]
  · isplitl [Hmf0]; · iexists _; iexact Hmf0
    isplitl [Hmt0]; · iexists _; iexact Hmt0
    isplitl [Hmf1]; · iexists _; iexact Hmf1
    isplitl [Hmt1]; · iexists _; iexact Hmt1
    isplitl [Hmf2]; · iexists _; iexact Hmf2
    iexists _; iexact Hmt2
  · isplitl [Hzf0]; · iexact Hzf0
    isplitl [Hzt0]; · iexact Hzt0
    isplitl [Hzf1]; · iexact Hzf1
    isplitl [Hzt1]; · iexact Hzt1
    isplitl [Hzf2]; · iexact Hzf2
    isplitl [Hzt2]; · iexact Hzt2
    isplitl [Hzf3]; · iexact Hzf3
    isplitl [Hzt3]; · iexact Hzt3
    isplitl [Hzf4]; · iexact Hzf4
    isplitl [Hzt4]; · iexact Hzt4
    isplitl [Hzf5]; · iexact Hzf5
    iexact Hzt5

end Cert.KernelIdeal.Hand

end
-- ==== Proof.Split.lean ====
/-
# The buffers cut into chunks, and put together again

The input, the result and the working buffer are each cut into the eight chunks (direction, number), a landing buffer into its three
slots. A buffer held whole is its chunks held apart, and back.
-/
module

public import proofs.«01_k».proof.Proof.Body

@[expose] public section

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Where the chunks lie -/

/-- The first row of chunk `j` of a direction in device `c`'s arrays: a function of the device's place `y` on the ring. -/
def rowOf (c : Dev nD) : Bool → Fin 4 → ℕ
  | false, j => (c.val / 4 % 4 + j.val) % 4 * 1024
  | true, j => 4096 + (c.val / 4 % 4 + 8 - j.val) % 4 * 1024

/-- The offset at which the program puts a chunk is that row, column 0. -/
theorem chunkOff_eq (c : Dev nD) (δ : Bool) (j : Fin 4) : chunkOff c δ j = ![rowOf c δ j, 0] := by
  revert c δ j; decide +kernel

/-- The chunk a row lies in. -/
def partOf (c : Dev nD) (R : ℕ) : Bool × Fin 4 :=
  if R < 4096 then (false, ⟨(R / 1024 + 4 - c.val / 4 % 4) % 4, Nat.mod_lt _ (by decide)⟩)
  else (true, ⟨(c.val / 4 % 4 + 8 - R / 1024 % 4) % 4, Nat.mod_lt _ (by decide)⟩)

/-- A row lies between the first and the last row of its chunk. -/
theorem partOf_spec (c : Dev nD) (R : ℕ) (hR : R < 8192) :
    rowOf c (partOf c R).1 (partOf c R).2 ≤ R ∧ R < rowOf c (partOf c R).1 (partOf c R).2 + 1024 := by
  unfold partOf
  split <;> simp only [rowOf] <;> omega

/-- The rows of different chunks are apart. -/
theorem rowOf_apart (c : Dev nD) (p p' : Bool × Fin 4) (h : p ≠ p') :
    rowOf c p.1 p.2 + 1024 ≤ rowOf c p'.1 p'.2 ∨ rowOf c p'.1 p'.2 + 1024 ≤ rowOf c p.1 p.2 := by
  obtain ⟨δ, j⟩ := p
  obtain ⟨δ', j'⟩ := p'
  have hj := j.isLt
  have hj' := j'.isLt
  have hne : δ = δ' → j.val ≠ j'.val := fun h1 h2 => h (by rw [h1, Fin.ext h2])
  cases δ <;> cases δ' <;> simp only [rowOf, true_implies, reduceCtorEq, false_implies] at hne ⊢ <;> omega

/-- Different chunks of an array share no element; -/
theorem chunk_disj (c : Dev nD) (p p' : Bool × Fin 4) (h : p ≠ p') : Disjoint (chunkR c p.1 p.2).set (chunkR c p'.1 p'.2).set := by
  refine Rect.unit_disjoint 0 ?_
  rw [chunkOff_eq, chunkOff_eq]
  exact rowOf_apart c p p' h
/-- The eight chunks are the whole array. -/
theorem chunk_cov (c : Dev nD) : (Finset.univ : Finset (Bool × Fin 4)).biUnion (fun p => (chunkR c p.1 p.2).set) = Finset.univ := by
  refine Finset.eq_univ_iff_forall.mpr fun i => Finset.mem_biUnion.mpr ⟨partOf c (i 0).val, Finset.mem_univ _, ?_⟩
  have h0 : (i 0).val < 8192 := (i 0).isLt
  have h1 : (i 1).val < 1024 := (i 1).isLt
  have h := partOf_spec c (i 0).val h0
  refine Rect.mem_set_unit.mpr ?_
  rw [chunkOff_eq]
  intro a
  fin_cases a
  · exact h
  · exact ⟨Nat.zero_le _, by show (i 1).val < 0 + 1024; omega⟩

/-- Different working slots share no element; -/
theorem slot_disj (p p' : Bool × Fin 4) (h : p ≠ p') : Disjoint (slotR p.1 p.2).set (slotR p'.1 p'.2).set := by
  refine Rect.unit_disjoint 0 ?_
  obtain ⟨δ, j⟩ := p
  obtain ⟨δ', j'⟩ := p'
  have hj := j.isLt
  have hj' := j'.isLt
  have hne : δ = δ' → j.val ≠ j'.val := fun h1 h2 => h (by rw [h1, Fin.ext h2])
  show row δ j + 1024 ≤ row δ' j' ∨ row δ' j' + 1024 ≤ row δ j
  cases δ <;> cases δ' <;> simp only [row, cond_true, cond_false, true_implies, reduceCtorEq, false_implies] at hne ⊢ <;> omega
/-- The eight slots are the whole working buffer. -/
theorem slot_cov : (Finset.univ : Finset (Bool × Fin 4)).biUnion (fun p => (slotR p.1 p.2).set) = Finset.univ := by
  refine Finset.eq_univ_iff_forall.mpr fun i => Finset.mem_biUnion.mpr
    ⟨(decide (4096 ≤ (i 0).val), ⟨(i 0).val / 1024 % 4, Nat.mod_lt _ (by decide)⟩), Finset.mem_univ _, ?_⟩
  have h0 : (i 0).val < 8192 := (i 0).isLt
  have h1 : (i 1).val < 1024 := (i 1).isLt
  refine Rect.mem_set_unit.mpr ?_
  intro a
  fin_cases a
  · show (cond (decide (4096 ≤ (i 0).val)) 4096 0) + 1024 * ((i 0).val / 1024 % 4) ≤ (i 0).val
      ∧ (i 0).val < (cond (decide (4096 ≤ (i 0).val)) 4096 0) + 1024 * ((i 0).val / 1024 % 4) + 1024
    by_cases h : 4096 ≤ (i 0).val
    · rw [decide_eq_true h, cond_true]; omega
    · rw [decide_eq_false h, cond_false]; omega
  · exact ⟨Nat.zero_le _, by show (i 1).val < 0 + 1024; omega⟩

/-- Different landing slots of a buffer share no element; -/
theorem tmp_disj (s s' : Fin 3) (h : s ≠ s') : Disjoint (tmpR s).set (tmpR s').set := by
  refine Rect.unit_disjoint 0 ?_
  have hne : s.val ≠ s'.val := fun h2 => h (Fin.ext h2)
  show s.val + 1 ≤ s'.val ∨ s'.val + 1 ≤ s.val
  omega
/-- The three slots are the whole landing buffer. -/
theorem tmp_cov : (Finset.univ : Finset (Fin 3)).biUnion (fun s => (tmpR s).set) = Finset.univ := by
  refine Finset.eq_univ_iff_forall.mpr fun i => Finset.mem_biUnion.mpr ⟨⟨(i 0).val, (i 0).isLt⟩, Finset.mem_univ _, ?_⟩
  have h1 : (i 1).val < 1024 := (i 1).isLt
  have h2 : (i 2).val < 1024 := (i 2).isLt
  refine Rect.mem_set_unit.mpr ?_
  intro a
  fin_cases a
  · exact ⟨le_refl _, Nat.lt_succ_self _⟩
  · exact ⟨Nat.zero_le _, by show (i 1).val < 0 + 1024; omega⟩
  · exact ⟨Nat.zero_le _, by show (i 2).val < 0 + 1024; omega⟩

/-! ## Cutting and joining -/

/-- Values given on the parts of a disjoint family are the parts of one function. -/
theorem glue {T : Type} {s : Shape} {α : Type} [Nonempty α] (r : T → Rect s) (hd : ∀ t t', t ≠ t' → Disjoint (r t).set (r t').set)
    (P : (t : T) → (r t).shape.Idx → α) : ∃ X : s.Idx → α, ∀ t j, X ((r t).emb j) = P t j := by
  classical
  refine ⟨fun i => if h : ∃ tj : (t : T) × (r t).shape.Idx, (r tj.1).emb tj.2 = i then P h.choose.1 h.choose.2 else Classical.arbitrary α, fun t j => ?_⟩
  have h : ∃ tj : (t : T) × (r t).shape.Idx, (r tj.1).emb tj.2 = (r t).emb j := ⟨⟨t, j⟩, rfl⟩
  refine (dif_pos h).trans ?_
  have hs := h.choose_spec
  generalize h.choose = tj at hs
  obtain ⟨t', j'⟩ := tj
  have hm (u : T) (k : (r u).shape.Idx) : (r u).emb k ∈ (r u).set := by
    rw [← (r u).map_emb_univ]; exact Finset.mem_map_of_mem _ (Finset.mem_univ k)
  by_cases ht : t' = t
  · subst ht
    have := (r t').emb.injective hs
    subst this
    rfl
  · exact absurd (hs ▸ hm t' j') (Finset.disjoint_right.mp (hd t' t ht) (hm t j))

section Join

variable (c : Dev nD) {sp : Space} {sh : Shape} (M : Memref sig .tc sp sh .f32) {T : Type} [Fintype T] [DecidableEq T] (r : T → Rect sh)
  (hr : ∀ t a, (r t).stride a = 1) (hd : ∀ t t', t ≠ t' → Disjoint (r t).set (r t').set)
  (hcov : (Finset.univ : Finset T).biUnion (fun t => (r t).set) = Finset.univ)
include hd hcov

/-- A buffer held whole is its pieces, each with some contents; -/
theorem cut_any (g : Buf (Elt F) (M.view.loc (c : Thread nD τ))) :
    (M.view.loc (c : Thread nD τ) ↦[M.view.set]{fullShare} g : sProp 𝕄)
      ⊢ bigSep Finset.univ fun t => iprop(∃ X, owns (Ix := Unit) (Name := ℕ) (U := UU) (Lvl := ℕ) (c : Thread nD τ) (M.slice (r t) (hr t)) fullShare X) := by
  rw [pointsTo_rects (c : Thread nD τ) M fullShare r hr hd hcov g]
  exact bigSep_mono fun t _ => by
    show (_ : sProp 𝕄) ⊢ _
    iintro H; iexists _; iexact H

/-- Parts held at known contents are the whole held at contents that have those as parts. -/
theorem join_known (P : (t : T) → (r t).shape.Idx → Elt F .f32) :
    (bigSep Finset.univ fun t => owns (Ix := Unit) (Name := ℕ) (U := UU) (Lvl := ℕ) (c : Thread nD τ) (M.slice (r t) (hr t)) fullShare (P t) : sProp 𝕄)
      ⊢ iprop(∃ g : Buf (Elt F) (M.view.loc (c : Thread nD τ)), ⌜∀ t j, M.view.read (Elt F) g ((r t).emb j) = P t j⌝
          ∗ (M.view.loc (c : Thread nD τ) ↦[M.view.set]{fullShare} g)) := by
  haveI : Nonempty (Elt F .f32) := Elt.nonempty F .f32
  obtain ⟨X, hX⟩ := glue r hd P
  have e : P = fun t j => X ((r t).emb j) := funext fun t => funext fun j => (hX t j).symm
  subst e
  iintro H
  ihave H := (owns_of_rects (c : Thread nD τ) M fullShare r hr hd hcov X) $$ H
  unfold owns
  icases H with ⟨%g, %hg, H⟩
  iexists g
  isplitr
  · ipureintro; intro t j; rw [hg]
  · iexact H

/-- And the pieces, each with some contents, are the buffer with some contents. -/
theorem join_any :
    (bigSep Finset.univ fun t => iprop(∃ X, owns (Ix := Unit) (Name := ℕ) (U := UU) (Lvl := ℕ) (c : Thread nD τ) (M.slice (r t) (hr t)) fullShare X) : sProp 𝕄)
      ⊢ iprop(∃ g : Buf (Elt F) (M.view.loc (c : Thread nD τ)), M.view.loc (c : Thread nD τ) ↦[M.view.set]{fullShare} g) := by
  haveI : Nonempty (Elt F .f32) := Elt.nonempty F .f32
  haveI : ∀ t : T, Nonempty ((r t).shape.Idx → Elt F .f32) := fun t => inferInstance
  iintro H
  ihave H := (BI.bigSep_exists_pi Finset.univ (fun (t : T) (X : (r t).shape.Idx → Elt F .f32) =>
    owns (Ix := Unit) (Name := ℕ) (U := UU) (Lvl := ℕ) (c : Thread nD τ) (M.slice (r t) (hr t)) fullShare X)) $$ H
  icases H with ⟨%P, H⟩
  ihave H := (join_known c M r hr hd hcov P) $$ H
  icases H with ⟨%g, -, H⟩
  iexists g; iexact H

end Join

/-! ## The kernel's buffers -/

/-- The working buffer cut into its slots; -/
theorem cut_work (c : Dev nD) (f : Buf (Elt F) ((c : Thread nD τ).loc cc0_scratch0)) :
    (((c : Thread nD τ).loc cc0_scratch0) ↦{fullShare} f : sProp 𝕄) ⊢ bigSep Finset.univ fun p : Bool × Fin 4 => any (F := F) c (slotM p.1 p.2) := by
  have h := cut_any (F := F) c workW (fun p : Bool × Fin 4 => slotR p.1 p.2) (fun _ _ => rfl) slot_disj slot_cov f
  rw [View.set_whole] at h
  exact h
/-- The slots joined to the working buffer. -/
theorem join_work (c : Dev nD) :
    (bigSep Finset.univ fun p : Bool × Fin 4 => any (F := F) c (slotM p.1 p.2) : sProp 𝕄)
      ⊢ iprop(∃ f : Buf (Elt F) ((c : Thread nD τ).loc cc0_scratch0), ((c : Thread nD τ).loc cc0_scratch0) ↦{fullShare} f) := by
  have h := join_any (F := F) c workW (fun p : Bool × Fin 4 => slotR p.1 p.2) (fun _ _ => rfl) slot_disj slot_cov
  rw [View.set_whole] at h
  exact h
/-- The result cut into its chunks; -/
theorem cut_out (c : Dev nD) (f : Buf (Elt F) ((c : Thread nD τ).loc main_v1)) :
    (((c : Thread nD τ).loc main_v1) ↦{fullShare} f : sProp 𝕄) ⊢ bigSep Finset.univ fun p : Bool × Fin 4 => any (F := F) c (outM c p.1 p.2) := by
  have h := cut_any (F := F) c outW (fun p : Bool × Fin 4 => chunkR c p.1 p.2) (fun _ _ => rfl) (chunk_disj c) (chunk_cov c) f
  rw [View.set_whole] at h
  exact h

/-- The result array of device `c` holds the finished chunks. -/
def Good (c : Dev nD) (X : Buf (Elt F) ((c : Thread nD τ).loc main_v1)) : Prop :=
  ∀ (p : Bool × Fin 4) (j : S1024x1024.Idx), outW.view.read (Elt F) X ((chunkR c p.1 p.2).emb j) = done m p.1 p.2 c j

/-- The finished chunks joined: a result all of whose chunks are finished. -/
theorem join_out (c : Dev nD) :
    (bigSep Finset.univ fun p : Bool × Fin 4 => own c (outM c p.1 p.2) (done m p.1 p.2 c) : sProp 𝕄)
      ⊢ iprop(∃ f : Buf (Elt F) ((c : Thread nD τ).loc main_v1), ⌜Good m c f⌝ ∗ ((c : Thread nD τ).loc main_v1) ↦{fullShare} f) := by
  have h := join_known (F := F) c outW (fun p : Bool × Fin 4 => chunkR c p.1 p.2) (fun _ _ => rfl) (chunk_disj c) (chunk_cov c)
    (fun p => done m p.1 p.2 c)
  rw [View.set_whole] at h
  exact h
/-- The input held whole is its eight chunks, each holding its part of the input. -/
theorem x_chunks (c : Dev nD) :
    (((c : Thread nD τ).loc main_arg0) ↦{fullShare} m ((c : Thread nD τ).loc main_arg0) : sProp 𝕄)
      = bigSep Finset.univ fun p : Bool × Fin 4 => own c (xM c p.1 p.2) (x0 m p.1 p.2 c) := by
  have h := pointsTo_rects (Ix := Unit) (Name := ℕ) (U := UU) (Lvl := ℕ) (c : Thread nD τ) xW fullShare (fun p : Bool × Fin 4 => chunkR c p.1 p.2) (fun _ _ => rfl) (chunk_disj c) (chunk_cov c)
    (m ((c : Thread nD τ).loc main_arg0))
  rw [View.set_whole] at h
  exact h

/-- A landing slot is the same seen with or without its leading axis of size one. -/
theorem any_squeeze (c : Dev nD) (δ : Bool) (s : Fin 3) :
    (any (F := F) c (tmpM δ s) : sProp 𝕄) = iprop(∃ X, owns (Ix := Unit) (Name := ℕ) (U := UU) (Lvl := ℕ) (c : Thread nD τ) ((tmpW δ).slice (tmpR s) (fun _ => rfl)) fullShare X) := by
  refine BI.equiv_iff.mp ⟨?_, ?_⟩
  · unfold any own owns
    rw [Memref.set_view_squeeze]
    show (_ : sProp 𝕄) ⊢ _
    iintro ⟨%X, %f, %hf, H⟩
    iexists _
    iexists f
    isplitr; · ipureintro; rfl
    iexact H
  · unfold any own owns
    rw [Memref.set_view_squeeze]
    show (_ : sProp 𝕄) ⊢ _
    iintro ⟨%X, %f, %hf, H⟩
    iexists _
    iexists f
    isplitr; · ipureintro; rfl
    iexact H

/-- A landing buffer cut into its three slots; -/
theorem cut_tmp (c : Dev nD) (δ : Bool) (g : Buf (Elt F) ((tmpW δ).view.loc (c : Thread nD τ))) :
    ((tmpW δ).view.loc (c : Thread nD τ) ↦[(tmpW δ).view.set]{fullShare} g : sProp 𝕄) ⊢ landing (F := F) δ c := by
  refine (cut_any (F := F) c (tmpW δ) tmpR (fun _ _ => rfl) tmp_disj tmp_cov g).trans ?_
  rw [bigSep_univ_eq_bigSepL [0, 1, 2] (by decide) (by decide)]
  simp only [bigSepL_cons_cons, bigSepL_singleton, ← any_squeeze]
  exact Entails.of_eq rfl
/-- The three slots joined to the landing buffer. -/
theorem join_tmp (c : Dev nD) (δ : Bool) : landing (F := F) δ c
    ⊢ iprop(∃ g : Buf (Elt F) ((tmpW δ).view.loc (c : Thread nD τ)), (tmpW δ).view.loc (c : Thread nD τ) ↦[(tmpW δ).view.set]{fullShare} g) := by
  refine BIBase.Entails.trans ?_ (join_any (F := F) c (tmpW δ) tmpR (fun _ _ => rfl) tmp_disj tmp_cov)
  rw [bigSep_univ_eq_bigSepL [0, 1, 2] (by decide) (by decide)]
  simp only [bigSepL_cons_cons, bigSepL_singleton, ← any_squeeze]
  rfl
/-- The first direction's landing buffer, held whole. -/
theorem tmp_whole_false (c : Dev nD) (g : Buf (Elt F) ((c : Thread nD τ).loc cc0_scratch1)) :
    ((tmpW false).view.loc (c : Thread nD τ) ↦[(tmpW false).view.set]{fullShare} g : sProp 𝕄) = (((c : Thread nD τ).loc cc0_scratch1) ↦{fullShare} g) := by
  unfold tmpW; rw [View.set_whole]
/-- The second direction's landing buffer, held whole. -/
theorem tmp_whole_true (c : Dev nD) (g : Buf (Elt F) ((c : Thread nD τ).loc cc0_scratch2)) :
    ((tmpW true).view.loc (c : Thread nD τ) ↦[(tmpW true).view.set]{fullShare} g : sProp 𝕄) = (((c : Thread nD τ).loc cc0_scratch2) ↦{fullShare} g) := by
  unfold tmpW; rw [View.set_whole]

end Cert.KernelIdeal.Hand

end
-- ==== Proof.Run.lean ====
/-
# The launch and the run

The cells' ghost state is made for all devices at once, the tokens are dealt to the devices that pay with them, the buffers are cut
into chunks, and the body of every device runs. At the end every device's result holds the finished chunks (`Good`), its argument is
unchanged and every semaphore counter is at zero.
-/
module

public import proofs.«01_k».proof.Proof.Body
public import proofs.«01_k».proof.Proof.Split
public import Idealize.ShloMosaic.Lib.Pipeline.Launch
public import Idealize.ShloMosaic.Lib.Pipeline.Kit
public import Idealize.ShloMosaic.Lib.Pipeline.CollectiveSegs

@[expose] public section

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A family over a sum is the two families. -/
theorem fam_sum {A B : Type} [Fintype A] [Fintype B] (P : A ⊕ B → sProp 𝕄) :
    bigSep Finset.univ P = iprop((bigSep Finset.univ fun a => P (.inl a)) ∗ (bigSep Finset.univ fun b => P (.inr b))) := bigSep_univ_sum P

/-- The two directions, written out. -/
theorem fam2 (P : Bool → sProp 𝕄) : bigSep Finset.univ P = iprop(P false ∗ P true) := by
  rw [bigSep_univ_eq_bigSepL [false, true] (by decide) (by decide), bigSepL_cons_cons, bigSepL_singleton]; rfl

/-! ## The kernel's own semaphores, its cells and its duty tokens -/

/-- The names of the DMA semaphores. -/
abbrev Ol : Type := (Bool × Fin 6) ⊕ (Bool × Fin 6) ⊕ (Bool × Fin 4)
/-- The kernel's own semaphores: all but the barrier. -/
abbrev osem (k : Ol) : SemLoc sig := csem (.inr k)

/-- They are allocated for the kernel alone; -/
theorem osem_scoped (k : Ol) : (osem k).isScoped .tc = true := by
  rcases k with ⟨δ, s⟩ | ⟨δ, s⟩ | ⟨δ, j⟩
  · cases δ <;> fin_cases s <;> rfl
  · cases δ <;> fin_cases s <;> rfl
  · cases δ <;> fin_cases j <;> rfl
/-- Are different from each other, and none of them belongs to a window. -/
theorem ownSemFacts : Pipeline.OwnSemFacts cfg0.spec osem :=
  ⟨osem_scoped, fun _ _ h => Sum.inr.inj (csem_injective h), fun _ w => w.elim0⟩

/-- All cells of all devices. -/
def ringCells : Finset (GSem nD τ sig) := Finset.univ.map ⟨fun ck : Dev nD × Cl => cell ck.1 ck.2, cell_injective⟩

/-- The duties of one device's cells: the barrier's two; the send, the receive cells' one; the local-copy cells' one in each of
their two rounds. -/
abbrev Tk : Type := Bool ⊕ (Bool × Fin 6) ⊕ (Bool × Fin 6) ⊕ (Bool × Fin 4) ⊕ (Bool × Fin 4)
/-- The cell, the round and the name of a duty. -/
def tk : Tk → Cl × ℕ × Bool
  | .inl d => (cBar, 0, d)
  | .inr (.inl p) => (cSend p.1 p.2, 0, false)
  | .inr (.inr (.inl p)) => (cRecv p.1 p.2, 0, false)
  | .inr (.inr (.inr (.inl p))) => (cLoc p.1 p.2, 0, false)
  | .inr (.inr (.inr (.inr p))) => (cLoc p.1 p.2, 1, false)
/-- Different duties of a device are different. -/
theorem tk_injective : Function.Injective tk := by
  rintro (a | ⟨a, b⟩ | ⟨a, b⟩ | ⟨a, b⟩ | ⟨a, b⟩) (a' | ⟨a', b'⟩ | ⟨a', b'⟩ | ⟨a', b'⟩ | ⟨a', b'⟩) h <;> cases h <;> rfl

/-- The token of a duty: cell, round and name. -/
abbrev tokOf (ct : Dev nD × Tk) : GSem nD τ sig × ℕ × Bool := (cell ct.1 (tk ct.2).1, (tk ct.2).2)
/-- Different duties have different tokens. -/
theorem tokOf_injective : Function.Injective (tokOf : Dev nD × Tk → GSem nD τ sig × ℕ × Bool) := by
  rintro ⟨c, t⟩ ⟨c', t'⟩ h
  have h1 := cell_injective (a₁ := (c, (tk t).1)) (a₂ := (c', (tk t').1)) (congrArg Prod.fst h)
  have h2 : (tokOf (c, t)).2 = (tokOf (c', t')).2 := congrArg Prod.snd h
  have h3 : t = t' := tk_injective (Prod.ext (congrArg Prod.snd h1) h2)
  have h4 : c = c' := congrArg Prod.fst h1
  subst h3 h4; rfl
/-- All tokens of all devices. -/
def ringToks : Finset (GSem nD τ sig × ℕ × Bool) := Finset.univ.map ⟨tokOf, tokOf_injective⟩

/-- The ghost state at the start: the launch's, and the kernel's cells at round 0 with all tokens. -/
def u₀ : UU :=
  (initOf (Pipeline.cells cfgs cellOf_inj) (Pipeline.launchToks cfgs cellOf_inj), initOf ringCells ringToks)

/-- The duty tokens of device `c`'s own cells. -/
def toks (c : Dev nD) : sProp 𝕄 := bigSep Finset.univ fun t : Tk => dutyTok ER (cell c (tk t).1) (tk t).2.1 (tk t).2.2

/-- What the launch deals device `c`. -/
def G (c : Dev nD) : sProp 𝕄 :=
  iprop((bigSep Finset.univ fun k : Cl => roundState ER (sched m) (cell c k) 0)
    ∗ (bigSep Finset.univ fun k : Cl => iprop(atPos ER (cell c k) 0 ∅ 0 ∗ reached ER (cell c k) 0)) ∗ toks (F := F) c)

/-- The tokens of the duties device `c` pays. -/
def payToks (c : Dev nD) : sProp 𝕄 :=
  iprop(dutyTok ER (cell (tgt true c) cBar) 0 false ∗ dutyTok ER (cell (tgt false c) cBar) 0 true
    ∗ (bigSep Finset.univ fun p : Bool × Fin 6 => dutyTok ER (cell c (cSend p.1 p.2)) 0 false)
    ∗ (bigSep Finset.univ fun p : Bool × Fin 6 => dutyTok ER (cell (tgt p.1 c) (cRecv p.1 p.2)) 0 false)
    ∗ (bigSep Finset.univ fun p : Bool × Fin 4 => dutyTok ER (cell c (cLoc p.1 p.2)) 0 false)
    ∗ (bigSep Finset.univ fun p : Bool × Fin 4 => dutyTok ER (cell c (cLoc p.1 p.2)) 1 false))
/-- What device `c` gets of the ghost state for itself: its cells at round 0 and the tokens of the duties that it pays. -/
def linear (c : Dev nD) : sProp 𝕄 :=
  iprop((bigSep Finset.univ fun k : Cl => atPos ER (cell c k) 0 ∅ 0) ∗ payToks (F := F) c)

/-- What the global step makes of it. -/
def G' (c : Dev nD) : sProp 𝕄 := iprop(∃ K, records m K ∗ linear (F := F) c)

/-- The kernel's ghost state, dealt out to the devices. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cl => Φ (cell c k) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (cell c cBar) 0 := by
  unfold unscopedSems0; rw [bigSep_eq_bigSepL_of_eq [SemLoc.reg barS] (by decide) (by decide)]; rfl

/-- All named semaphores at zero are the barrier and the own ones at zero. -/
theorem sems0_eq (c : Dev nD) :
    (bigSep Finset.univ fun k : Cl => semVal (cell c k) 0 : sProp 𝕄)
      = iprop(unscopedSems0 c ∗ Pipeline.ownSems0 (Ix := Unit) (Name := ℕ) (U := UU) (Lvl := ℕ) (Val := Elt F) (τ := τ) osem c) := by
  rw [fam_sum, unscopedSems0_eq, bigSep_univ_of_subsingleton ()]
  rfl

/-- A device's semaphores at zero and its ghost state make its cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cl => iprop(∃ κ : ℕ, cellInv ER (sched m) κ (cell c k)))
          ∗ (bigSep Finset.univ fun k : Cl => iprop(atPos ER (cell c k) 0 ∅ 0 ∗ reached ER (cell c k) 0)) ∗ toks (F := F) c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Cl => semVal (cell c k) 0) ∗ bigSep Finset.univ fun k : Cl => roundState ER (sched m) (cell c k) 0)
      ⊢ (|={Set.univ}=> bigSep Finset.univ fun k : Cl => iprop(∃ κ : ℕ, cellInv ER (sched m) κ (cell c k)) : sProp 𝕄) from by
        rw [← bigSep_sep']
        exact (bigSep_mono fun k _ => (Rounds.body_intro ER (sched m) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- The knowledge and a device's own part are what its body starts from. -/
theorem ghost_intro (K : Dev nD × Cl → ℕ) (c : Dev nD) : iprop(records m K ∗ linear (F := F) c) ⊢ G' m c := by
  unfold G'
  iintro H
  iexists K
  iexact H

/-- The tokens dealt to the devices that pay with them. -/
theorem toks_around : (bigSep Finset.univ fun c : Dev nD => (toks (F := F) c : sProp 𝕄)) ⊢ bigSep Finset.univ fun c : Dev nD => payToks (F := F) c := by
  have hr : (bigSep Finset.univ fun c : Dev nD => bigSep Finset.univ fun p : Bool × Fin 6 => (dutyTok ER (cell c (cRecv p.1 p.2)) 0 false : sProp 𝕄))
      = bigSep Finset.univ fun c : Dev nD => bigSep Finset.univ fun p : Bool × Fin 6 => dutyTok ER (cell (tgt p.1 c) (cRecv p.1 p.2)) 0 false := by
    rw [bigSep_univ_comm, bigSep_univ_comm (fun (c : Dev nD) (p : Bool × Fin 6) => (dutyTok ER (cell (tgt p.1 c) (cRecv p.1 p.2)) 0 false : sProp 𝕄))]
    exact bigSep_congr fun p _ => bigSep_univ_equiv (ring p.1) (fun c : Dev nD => (dutyTok ER (cell c (cRecv p.1 p.2)) 0 false : sProp 𝕄))
  have hb (d d' : Bool) : (bigSep Finset.univ fun c : Dev nD => (dutyTok ER (cell c cBar) 0 d : sProp 𝕄))
      = bigSep Finset.univ fun c : Dev nD => dutyTok ER (cell (tgt d' c) cBar) 0 d :=
    bigSep_univ_equiv (ring d') (fun c : Dev nD => (dutyTok ER (cell c cBar) 0 d : sProp 𝕄))
  unfold toks payToks
  simp only [fam_sum, tk, bigSep_sep']
  rw [hr]
  simp only [fam2, bigSep_sep']
  rw [hb false true, hb true false]
  show (_ : sProp 𝕄) ⊢ _
  iintro ⟨⟨H1, H2⟩, H3, H4, H5, H6⟩
  isplitl [H1]; · iexact H1
  isplitl [H2]; · iexact H2
  isplitl [H3]; · iexact H3
  isplitl [H4]; · iexact H4
  isplitl [H5]; · iexact H5
  iexact H6

/-- What can be used any number of times can be used at each member of a family. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants of all devices become known to all, and each token goes to the device that pays with it. -/
theorem regroup :
    (bigSep Finset.univ fun c : Dev nD => iprop((bigSep Finset.univ fun k : Cl => iprop(∃ κ : ℕ, cellInv ER (sched m) κ (cell c k)))
          ∗ (bigSep Finset.univ fun k : Cl => iprop(atPos ER (cell c k) 0 ∅ 0 ∗ reached ER (cell c k) 0)) ∗ toks (F := F) c) : sProp 𝕄)
      ⊢ bigSep Finset.univ (G' m) := by
  classical
  rw [bigSep_sep', bigSep_sep', ← bigSep_univ_prod (fun ck : Dev nD × Cl => iprop(∃ κ : ℕ, cellInv ER (sched m) κ (cell ck.1 ck.2))),
    bigSep_congr (s := Finset.univ) (fun (c : Dev nD) _ => bigSep_sep' Finset.univ (fun k : Cl => (atPos ER (cell c k) 0 ∅ 0 : sProp 𝕄)) (fun k => reached ER (cell c k) 0)),
    bigSep_sep', ← bigSep_univ_prod (fun ck : Dev nD × Cl => (reached ER (cell ck.1 ck.2) 0 : sProp 𝕄))]
  iintro ⟨HI, ⟨Hat, #HR⟩, Htok⟩
  ihave HK := (BI.bigSep_exists_pi Finset.univ (fun (ck : Dev nD × Cl) (κ : ℕ) => (cellInv ER (sched m) κ (cell ck.1 ck.2) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => bigSep Finset.univ fun k : Cl => (atPos ER (cell c k) 0 ∅ 0 : sProp 𝕄)) payToks).symm)
    isplitl [Hat]; · iexact Hat
    iexact Htk

/-- The global step: the invariants of every device's cells made at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What all devices together owe a cell by one tally, each to its neighbour's. -/
theorem tot (δ : Bool) (k k' : Cl) (n : ℕ) (c : Dev nD) :
    (∑ d : Dev nD, (tallyAt (cell (tgt δ d) k) () n : CellTallies nD τ sig Unit) (cell c k') ()) = if k = k' then n else 0 := by
  by_cases h : k = k'
  · subst h
    rw [if_pos rfl, Finset.sum_eq_single (src δ c)]
    · rw [tgt_src, tallyAt_apply, if_pos ⟨rfl, rfl⟩]
    · intro d _ hd
      rw [tallyAt_apply, if_neg (fun ⟨h1, _⟩ => hd (by rw [cell_eq_iff.mp h1, src_tgt]))]
    · exact fun h => absurd (Finset.mem_univ _) h
  · rw [if_neg h]
    exact Finset.sum_eq_zero fun d _ => by rw [tallyAt_ne_cell (cell_ne (Ne.symm h)), Finsupp.zero_apply]

/-- The credit a cell is launched with. -/
def credOf : Cl → ℕ
  | cBar => 2
  | cRecv _ _ => N
  | _ => 0

/-- All that is owed to a cell is what it will be waited for. -/
theorem owed_total (c : Dev nD) (k : Cl) : (∑ d : Dev nD, O₀ d (cell c k) ()) = credOf k := by
  unfold O₀ O₁
  simp only [OF, Pi.add_apply, Finsupp.add_apply, Finset.sum_add_distrib, tot, Pi.zero_apply, Finsupp.zero_apply, Finset.sum_const_zero]
  rcases k with ⟨⟩ | ⟨δ, s⟩ | ⟨δ, s⟩ | ⟨δ, j⟩
  · rfl
  · cases δ <;> fin_cases s <;> rfl
  · cases δ <;> fin_cases s <;> simp [credOf, Fin.ofNat]
  · cases δ <;> fin_cases j <;> rfl

/-- So the launch's credit at a cell is that. -/
theorem launch_cell (c : Dev nD) (k : Cl) :
    tallyOn (cell c k) (launchCredit (Pipeline.owing O₀) 0 (cell c k)) = (tallyAt (cell c k) () (credOf k) : CellTallies nD τ sig Unit) := by
  unfold tallyAt; refine congrArg _ (Finsupp.ext fun u => ?_); cases u
  rw [Pipeline.launchCredit_owing, Finsupp.single_eq_same, owed_total]

/-- The credit a device waits with at its barrier and its receive cells. -/
def credits (c : Dev nD) : sProp 𝕄 :=
  iprop(cred (tallyAt (cell c cBar) () 2) ∗ (bigSep Finset.univ fun p : Bool × Fin 6 => cred (tallyAt (cell c (cRecv p.1 p.2)) () N)))

/-- The launch's credit contains it. -/
theorem creds (c : Dev nD) : (Pipeline.launchCred O₀ c : sProp 𝕄) ⊢ credits (F := F) c := by
  unfold Pipeline.launchCred credits
  refine BIBase.Entails.trans (bigSep_subset (t := Finset.univ.map ⟨csem, csem_injective⟩) (Finset.subset_univ _)) ?_
  rw [bigSep_map]
  refine BIBase.Entails.trans (bigSep_mono (Ψ := fun k : Cl => cred (tallyAt (cell c k) () (credOf k))) fun k _ => Entails.of_eq (congrArg (fun T => (cred T : sProp 𝕄)) (launch_cell c k))) ?_
  simp only [fam_sum]
  rw [bigSep_univ_of_subsingleton ()]
  show (_ : sProp 𝕄) ⊢ _
  iintro ⟨H1, H2, H3, H4⟩
  isplitl [H1]; · iexact H1
  iexact H3

/-! ## What the body of a device starts from and ends with -/

/-- The input array, as at the start. -/
abbrev xPts (c : Dev nD) : sProp 𝕄 := ((c : Thread nD τ).loc main_arg0) ↦{fullShare} m ((c : Thread nD τ).loc main_arg0)
/-- The result array at the finished chunks. -/
abbrev outDone (c : Dev nD) : sProp 𝕄 :=
  iprop(∃ f : Buf (Elt F) ((c : Thread nD τ).loc main_v1), ⌜Good m c f⌝ ∗ ((c : Thread nD τ).loc main_v1) ↦{fullShare} f)
/-- The three scratch buffers at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- What a device has before the kernel allocates its scratch. -/
def start (c : Dev nD) : sProp 𝕄 :=
  iprop(G' m c ∗ credits (F := F) c ∗ levAts L lv ∗ xPts m c
    ∗ (∃ f : Buf (Elt F) ((c : Thread nD τ).loc main_v1), ((c : Thread nD τ).loc main_v1) ↦{fullShare} f))

/-- What a device has when the body begins, -/
def Φ₀ (c : Dev nD) : sProp 𝕄 := iprop(start m c ∗ scratch (F := F) c)
/-- And when it has ended. -/
def Φ₁ (c : Dev nD) : sProp 𝕄 :=
  iprop((unscopedSems0 c ∗ xPts m c ∗ outDone m c)
    ∗ Pipeline.ownSems0 (Ix := Unit) (Name := ℕ) (U := UU) (Lvl := ℕ) (Val := Elt F) (τ := τ) osem c ∗ scratch (F := F) c)

/-- The one gives what the body's rule asks for; -/
theorem to_body (c : Dev nD) : iprop(Φ₀ m c ∗ owing (F := F) c (O₀ c)) ⊢ iprop(∃ K, bodyIn m K c) := by
  unfold Φ₀ start G' linear payToks credits scratch
  iintro ⟨⟨⟨⟨%K, #HR, Hat, Ht1, Ht2, Hts, Htr, Htl0, Htl1⟩, ⟨Hc1, Hcr⟩, Hlev, Hx, %fo, Ho⟩, ⟨%f0, H0⟩, ⟨%f1, H1⟩, %f2, H2⟩, HO⟩
  iexists K
  unfold bodyIn barKeys inB outKeys keys
  simp only [bigSep_sep']
  ihave Hat := (Entails.of_eq (show (bigSep Finset.univ fun k : Cl => (atPos ER (cell c k) 0 ∅ 0 : sProp 𝕄))
      = iprop(atPos ER (cell c cBar) 0 ∅ 0 ∗ (bigSep Finset.univ fun p : Bool × Fin 6 => atPos ER (cell c (cSend p.1 p.2)) 0 ∅ 0)
          ∗ (bigSep Finset.univ fun p : Bool × Fin 6 => atPos ER (cell c (cRecv p.1 p.2)) 0 ∅ 0)
          ∗ (bigSep Finset.univ fun p : Bool × Fin 4 => atPos ER (cell c (cLoc p.1 p.2)) 0 ∅ 0)) from by
        simp only [fam_sum]; rw [bigSep_univ_of_subsingleton ()])) $$ Hat
  icases Hat with ⟨HaB, HaS, HaR, HaL⟩
  ihave Hx := (Entails.of_eq (x_chunks m c)) $$ Hx
  ihave Ho := (cut_out (F := F) c fo) $$ Ho
  ihave Hw := (cut_work (F := F) c f0) $$ H0
  ihave H1 := (Entails.of_eq (tmp_whole_false (F := F) c f1).symm) $$ H1
  ihave H2 := (Entails.of_eq (tmp_whole_true (F := F) c f2).symm) $$ H2
  ihave H1 := (cut_tmp (F := F) c false f1) $$ H1
  ihave H2 := (cut_tmp (F := F) c true f2) $$ H2
  isplitr; · iexact HR
  isplitl [Hlev]; · iexact Hlev
  isplitl [HO]; · iexact HO
  isplitl [Ht1 Ht2 Hc1 HaB]
  · isplitl [Ht1]; · iexact Ht1
    isplitl [Ht2]; · iexact Ht2
    isplitl [Hc1]; · iexact Hc1
    iexact HaB
  isplitl [H1]; · iexact H1
  isplitl [H2]; · iexact H2
  isplitl [Hx Hw Htl0]
  · isplitl [Hx]; · iexact Hx
    isplitl [Hw]; · iexact Hw
    iexact Htl0
  isplitl [Ho Htl1 HaL]
  · isplitl [Ho]; · iexact Ho
    isplitl [Htl1]; · iexact Htl1
    iexact HaL
  isplitl [Hts]; · iexact Hts
  isplitl [Htr]; · iexact Htr
  isplitl [Hcr]; · iexact Hcr
  isplitl [HaS]; · iexact HaS
  iexact HaR

/-- And what the body's rule ends with gives the other. -/
theorem of_body (c : Dev nD) : bodyOut m c ⊢ iprop(Φ₁ m c ∗ owing (F := F) c 0) := by
  unfold bodyOut outA zeros Φ₁ scratch
  simp only [bigSep_sep']
  show (_ : sProp 𝕄) ⊢ _
  iintro ⟨HO, HzB, Hx, ⟨Ho, Hw, HzL⟩, Ht, HzS, HzR⟩
  ihave Hx := (Entails.of_eq (x_chunks m c).symm) $$ Hx
  ihave Ho := (join_out m c) $$ Ho
  ihave Hw := (show (bigSep Finset.univ fun p : Bool × Fin 4 => own c (slotM p.1 p.2) (done m p.1 p.2 c) : sProp 𝕄)
      ⊢ bigSep Finset.univ fun p : Bool × Fin 4 => any (F := F) c (slotM p.1 p.2) from
    bigSep_mono fun p _ => by
      show (_ : sProp 𝕄) ⊢ _
      iintro H; iexists _; iexact H) $$ Hw
  ihave Hw := (join_work (F := F) c) $$ Hw
  ihave Ht := (Entails.of_eq (fam3 (F := F) fun p => any (F := F) c (tmpM p.1 p.2))) $$ Ht
  icases Ht with ⟨Hf0, Ht0, Hf1, Ht1, Hf2, Ht2⟩
  ihave H1 := (join_tmp (F := F) c false) $$ [Hf0 Hf1 Hf2]
  · unfold landing
    isplitl [Hf0]; · iexact Hf0
    isplitl [Hf1] <;> iassumption
  ihave H2 := (join_tmp (F := F) c true) $$ [Ht0 Ht1 Ht2]
  · unfold landing
    isplitl [Ht0]; · iexact Ht0
    isplitl [Ht1] <;> iassumption
  icases H1 with ⟨%f1, H1⟩
  icases H2 with ⟨%f2, H2⟩
  ihave H1 := (Entails.of_eq (tmp_whole_false (F := F) c f1)) $$ H1
  ihave H2 := (Entails.of_eq (tmp_whole_true (F := F) c f2)) $$ H2
  isplitr [HO]; swap; · iexact HO
  isplitl [HzB Hx Ho]
  · isplitl [HzB]; · rw [unscopedSems0_eq]; iexact HzB
    isplitl [Hx] <;> iassumption
  isplitl [HzS HzR HzL]
  · unfold Pipeline.ownSems0
    rw [fam_sum, fam_sum]
    isplitl [HzS]; · iexact HzS
    isplitl [HzR] <;> iassumption
  isplitl [Hw]; · iexact Hw
  isplitl [H1]
  · iexists f1; iexact H1
  · iexists f2; iexact H2

/-! ## The call's proof data -/

/-- The call as the launch library asks for it: no windows, the state before and after the one step. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

set_option maxRecDepth 100000 in
/-- The call's body on device `c`. -/
theorem body_obligation (c : Dev nD) : BodyObligation (dats (F := F) m 0 c) (defs₀ (F := F)) 𝒱₀ () Set.univ := fun t => by
  rw [fin_N0 t, Finset.univ_eq_empty, bigSep_empty, bigSep_empty]
  show iprop(Φ₀ m c ∗ (dats m 0 c).owesAt () t0_0.castSucc ∗ BI.emp) ⊢ wp frame (wpE (defs₀ (F := F)) 𝒱₀ (c : Thread nD τ) none) Set.univ
    (bodyProg (F := F)) (fun _ => iprop(Φ₁ m c ∗ (dats m 0 c).owesAt () t0_0.succ ∗ BI.emp))
  unfold Dat.owesAt Pipeline.owesWithin
  iintro ⟨HΦ, ⟨%W, %hW, HO⟩, -⟩
  ihave H := (to_body m c) $$ [HΦ HO]
  · isplitl [HΦ]; · iexact HΦ
    iexists W; iexact HO
  icases H with ⟨%K, H⟩
  iapply (sound_body m K c)
  isplitl [H]; · iexact H
  iintro H
  ihave H := (of_body m c) $$ H
  icases H with ⟨HΦ, %W', HO⟩
  isplitl [HΦ]; · iexact HΦ
  isplitl [HO]
  · iexists W'
    isplitr; · ipureintro; exact fun _ _ => Or.inl trivial
    iexact HO
  · iempintro

/-- What the launch gives a device is what it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [Hx]; · iexact Hx
    iexists _; iexact Ho
  · iempintro

/-- With the scratch allocated, the state before the body. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- The state after the body gives the scratch back. -/
theorem phi1_exit (c : Dev nD) :
    (dats m 0 c).Φ (Fin.last cfg0.N)
      ⊢ iprop((unscopedSems0 c ∗ xPts m c ∗ outDone m c) ∗ Pipeline.ownSems0 osem c ∗ Pipeline.scopedRest cfg0.spec c) := by
  rw [show (dats m 0 c).Φ (Fin.last cfg0.N) = Φ₁ m c from rfl, scopedRest0_eq]
  unfold Φ₁ scratch
  exact Entails.of_eq rfl

/-! ## The run -/

/-- What is read off device `c`'s memory at the end. -/
def Reads (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0) ∧ Good m c (s.mem ((c : Thread nD τ).loc main_v1))

/-- A buffer held with known contents holds them in the machine. -/
theorem read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have h := pointsTo_read_all (Ix := Unit) (Name := ℕ) (U := UU) (Lvl := ℕ) (Finset.univ : Finset Unit) (fun _ => ℓ) (fun _ => f) s' fullShare
  rw [bigSep_univ_of_subsingleton ()] at h
  iintro H
  ihave H := h $$ H
  icases H with ⟨%h, H⟩
  isplitr; · ipureintro; exact h () (Finset.mem_univ _)
  iexact H

/-- What a device has at the end, read in the machine: its argument as it was, its result finished, its barrier at zero. -/
theorem read_end (c : Dev nD) (s' : Phys nD τ sig (Elt F)) :
    iprop((unscopedSems0 c ∗ xPts m c ∗ outDone m c) ∗ emp ∗ SI s') ⊢ |={Set.univ}=> (iprop(⌜Reads m c s'.mem⌝ ∗ SI s') : sProp 𝕄) := by
  iintro ⟨⟨Hu, Hx, ⟨%f, %hf, Ho⟩⟩, -, HSI⟩
  ihave H := (read_one (F := F) _ _ s') $$ [Hx HSI]
  · isplitl [Hx] <;> iassumption
  icases H with ⟨%hx, HSI⟩
  ihave H := (read_one (F := F) _ _ s') $$ [Ho HSI]
  · isplitl [Ho] <;> iassumption
  icases H with ⟨%ho, HSI⟩
  imod (Pipeline.unscopedSems0_read (X := unscopedSems0 c) (c := c) fupd_intro s') $$ [Hu HSI] with ⟨%hu, HSI⟩
  · isplitl [Hu] <;> iassumption
  imodintro
  isplitr; · ipureintro; exact ⟨hu, hx, by rw [ho]; exact hf⟩
  iexact HSI

set_option maxRecDepth 8000 in
/-- From any memory with zero counters, for any float values: every weakly fair execution of the kernel on the 32 devices
terminates, and at the end every device's result holds the finished chunks, its argument is unchanged and every semaphore counter is
at zero. -/
theorem run_main : θ_run defs (onTc (τ := τ) (main (F := F))) (s₀ m ρ) (fun r =>
    (∀ c : Dev nD, r.2.mem ((c : Thread nD τ).loc main_arg0) = m ((c : Thread nD τ).loc main_arg0) ∧ Good m c (r.2.mem ((c : Thread nD τ).loc main_v1)))
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne)
    (hwaits := fun c => Pipeline.cellsWaits_intro cfgs (dats m) () 0 c fun w => w.elim0)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := fun c => iprop(unscopedSems0 c ∗ xPts m c ∗ outDone m c)) (Z := fun _ => iprop(emp))
    (hX := start_intro m ρ) (hin := phi0_intro m) (hout := phi1_exit m)
    (QY := Reads m) (hY := read_end m)
    (hQ := fun _ h hs => ⟨fun c => (h c).2.2.2, sem_eq_zero hs fun c => (h c).2.2.1⟩)

end Cert.KernelIdeal.Hand

end
-- ==== Proof.Value.lean ====
/-
# The value: every chunk of the result is the sum over the ring of the input's blocks

Read in the extended reals. A finished chunk of a device's result holds, at each of its elements, the sum over the four
places of the ring of the inputs there (`done_apply`); the reference reshapes the whole array to its four blocks and sums
them (`ref_apply`); the two are the same sum (`good_eq`).
-/
module

public import proofs.«01_k».proof.Proof.Run
public import proofs.«01_k».proof.Proof.Gen.ReferenceIdeal.Run
public import Idealize.ShloMosaic.Lib.Layout
public import Idealize.ShloMosaic.PureOps.Ideal.Laws

@[expose] public section

set_option maxRecDepth 16384

noncomputable section

namespace Cert.KernelIdeal.Hand

open Cert.KernelIdeal Cert.KernelIdeal.Gen

open Idealize.ShloMosaic
open Idealize.ShloMosaic.TcCoe
open Idealize.SL.Sem

/-! ## Places -/

/-- A device's place on its ring: the index of the block of the whole array it holds. -/
def place (c : Dev nD) : Fin 4 := ⟨c.val / 4 % 4, Nat.mod_lt _ (by decide)⟩

/-- The sender's place is one back, or one on, along the ring. -/
theorem place_src (δ : Bool) (c : Dev nD) : place (src δ c) = place c + (cond δ 1 3) := by revert δ c; decide +kernel

/-- The sender's chunk of a number has the rows of the receiver's chunk one number before it. -/
theorem rowOf_src (δ : Bool) (c : Dev nD) (j : Fin 4) : rowOf (src δ c) δ j = rowOf c δ (j + 3) := by revert δ c j; decide +kernel

/-- The row of an element of a chunk: counted from the chunk's first row. -/
theorem emb_row (c : Dev nD) (δ : Bool) (j : Fin 4) (e : S1024x1024.Idx) :
    ((chunkR c δ j).emb e (0 : Fin 2)).val = rowOf c δ j + (e (0 : Fin 2)).val := by
  show chunkOff c δ j 0 + 1 * (e (0 : Fin 2)).val = _
  rw [chunkOff_eq, Nat.one_mul]; rfl
/-- The column of an element of a chunk: the same in the array. -/
theorem emb_col (c : Dev nD) (δ : Bool) (j : Fin 4) (e : S1024x1024.Idx) :
    ((chunkR c δ j).emb e (1 : Fin 2)).val = (e (1 : Fin 2)).val := by
  show chunkOff c δ j 1 + 1 * (e (1 : Fin 2)).val = _
  rw [chunkOff_eq, Nat.one_mul]; exact Nat.zero_add _

/-- Chunks with the same first row have the same elements, on any two devices. -/
theorem emb_eq {c c' : Dev nD} {δ : Bool} {j j' : Fin 4} (h : rowOf c δ j = rowOf c' δ j') (e : S1024x1024.Idx) :
    (chunkR c δ j).emb e = (chunkR c' δ j').emb e := by
  have h0 : ((chunkR c δ j).emb e (0 : Fin 2)).val = ((chunkR c' δ j').emb e (0 : Fin 2)).val := by rw [emb_row, emb_row, h]
  have h1 : ((chunkR c δ j).emb e (1 : Fin 2)).val = ((chunkR c' δ j').emb e (1 : Fin 2)).val := by rw [emb_col, emb_col]
  funext a
  apply Fin.ext
  match a with
  | ⟨0, _⟩ => exact h0
  | ⟨1, _⟩ => exact h1

/-! ## The finished chunks -/

section Sum

variable (m : (ℓ : Loc nD τ sig) → Buf (Elt Ideal) ℓ) (f : Fin 4 → S8192x1024.Idx → EReal)

/-- The sum over the ring's places of the blocks at an element. -/
def ringSum (i : S8192x1024.Idx) : EReal := f 0 i + f 1 i + f 2 i + f 3 i

/-- Adding up from any device round the ring, in either direction, gives the sum over the places. -/
theorem ring_add (δ : Bool) (c : Dev nD) (i : S8192x1024.Idx) :
    f (place c) i + (f (place (src δ c)) i + (f (place (src δ (src δ c))) i + f (place (src δ (src δ (src δ c)))) i)) = ringSum f i := by
  rw [place_src δ (src δ (src δ c)), place_src δ (src δ c), place_src δ c]
  generalize place c = y
  unfold ringSum
  cases δ <;> fin_cases y
  · show f 0 i + (f 3 i + (f 2 i + f 1 i)) = _; ac_rfl
  · show f 1 i + (f 0 i + (f 3 i + f 2 i)) = _; ac_rfl
  · show f 2 i + (f 1 i + (f 0 i + f 3 i)) = _; ac_rfl
  · show f 3 i + (f 2 i + (f 1 i + f 0 i)) = _; ac_rfl
  · show f 0 i + (f 1 i + (f 2 i + f 3 i)) = _; ac_rfl
  · show f 1 i + (f 2 i + (f 3 i + f 0 i)) = _; ac_rfl
  · show f 2 i + (f 3 i + (f 0 i + f 1 i)) = _; ac_rfl
  · show f 3 i + (f 0 i + (f 1 i + f 2 i)) = _; ac_rfl

variable (hf : ∀ c : Dev nD, m ((c : Thread nD τ).loc main_arg0) = f (place c))

include hf

/-- A chunk of the input at an element. -/
theorem x0_apply (δ : Bool) (j : Fin 4) (c : Dev nD) (e : S1024x1024.Idx) :
    x0 m δ j c e = f (place c) ((chunkR c δ j).emb e) := by
  rw [← hf]; rfl

/-- After the three reduce steps a device's running sum is the sum over the ring, at its chunk 1. -/
theorem acc3_apply (δ : Bool) (c : Dev nD) (e : S1024x1024.Idx) : acc m δ 3 c e = ringSum f ((chunkR c δ 1).emb e) := by
  have h1 : (chunkR (src δ c) δ 2).emb e = (chunkR c δ 1).emb e := emb_eq (rowOf_src δ c 2) e
  have h2 : (chunkR (src δ (src δ c)) δ 3).emb e = (chunkR c δ 1).emb e :=
    (emb_eq (rowOf_src δ (src δ c) 3) e).trans h1
  have h3 : (chunkR (src δ (src δ (src δ c))) δ 0).emb e = (chunkR c δ 1).emb e :=
    (emb_eq (rowOf_src δ (src δ (src δ c)) 0) e).trans h2
  show x0 m δ 1 c e + (x0 m δ 2 (src δ c) e + (x0 m δ 3 (src δ (src δ c)) e + x0 m δ 0 (src δ (src δ (src δ c))) e)) = _
  rw [x0_apply m f hf, x0_apply m f hf, x0_apply m f hf, x0_apply m f hf, h1, h2, h3, ring_add]

/-- Every finished chunk is the sum over the ring, at its own rows. -/
theorem done_apply (δ : Bool) (j : Fin 4) (c : Dev nD) (e : S1024x1024.Idx) :
    done m δ j c e = ringSum f ((chunkR c δ j).emb e) := by
  have s1 (d : Dev nD) : (chunkR (src δ d) δ 1).emb e = (chunkR d δ 0).emb e := emb_eq (rowOf_src δ d 1) e
  have s0 (d : Dev nD) : (chunkR (src δ d) δ 0).emb e = (chunkR d δ 3).emb e := emb_eq (rowOf_src δ d 0) e
  have s3 (d : Dev nD) : (chunkR (src δ d) δ 3).emb e = (chunkR d δ 2).emb e := emb_eq (rowOf_src δ d 3) e
  match j with
  | 0 =>
    show acc m δ 3 (src δ c) e = _
    rw [acc3_apply m f hf, s1]
  | 1 => exact acc3_apply m f hf δ c e
  | 2 =>
    show acc m δ 3 (src δ (src δ (src δ c))) e = _
    rw [acc3_apply m f hf, s1, s0, s3]
  | 3 =>
    show acc m δ 3 (src δ (src δ c)) e = _
    rw [acc3_apply m f hf, s1, s0]

/-- So a result whose eight chunks are the finished ones is the sum over the ring everywhere. -/
theorem good_apply (c : Dev nD) (X : Buf (Elt Ideal) ((c : Thread nD τ).loc main_v1)) (hX : Good m c X) (i : S8192x1024.Idx) :
    (X : S8192x1024.Idx → EReal) i = ringSum f i := by
  have hi : i ∈ (Finset.univ : Finset (Bool × Fin 4)).biUnion (fun p => (chunkR c p.1 p.2).set) := by
    rw [chunk_cov]; exact Finset.mem_univ _
  obtain ⟨p, -, hp⟩ := Finset.mem_biUnion.mp hi
  rw [← Rect.map_emb_univ] at hp
  obtain ⟨e, -, rfl⟩ := Finset.mem_map.mp hp
  exact (hX p e).trans (done_apply m f hf p.1 p.2 c e)

end Sum

/-! ## The reference -/

/-- The blocks of a whole array: block `y` is its rows from `8192 y`. -/
def blocks (w : Cert.ReferenceIdeal.S32768x1024.Idx → EReal) (y : Fin 4) : S8192x1024.Idx → EReal := fun i =>
  w (Shape.pair ⟨y.val * 8192 + (i 0).val, by have h : (i 0).val < 8192 := (i 0).isLt; have := y.isLt; show _ < 32768; omega⟩ (i 1))

/-- What a device's part of a whole array is: the block at its place. -/
theorem part_eq (c : Dev nD) (w : Cert.ReferenceIdeal.S32768x1024.Idx → EReal) :
    (Layout.blockN ⟨2, ![8192, 1024]⟩ ⟨2, ![32768, 1024]⟩ (Layout.meshBlock [2, 4, 4] ![[1], []] c) w) = blocks w (place c) := by
  funext i
  rw [Layout.blockN_apply]
  refine congrArg w ?_
  funext a
  apply Fin.ext
  rw [Layout.TilesN.idx_val]
  match a with
  | ⟨0, _⟩ =>
    show (c.val / 4 % 4 * 1 + 0) * 8192 + (i 0).val = c.val / 4 % 4 * 8192 + (i 0).val
    omega
  | ⟨1, _⟩ =>
    show 0 * 1024 + (i 1).val = (i 1).val
    omega

/-- The reference's result: the whole array as four blocks, summed over them. -/
def refOut (w : Cert.ReferenceIdeal.S32768x1024.Idx → EReal) : FVec Ideal Cert.ReferenceIdeal.S8192x1024 .f32 :=
  Host.reduceAdd (F := Ideal) (φ := .f32) (shapeCast Cert.ReferenceIdeal.S4x8192x1024 w Cert.ReferenceIdeal.Gen.shapeCasts_S32768x1024_S4x8192x1024)
    (constant Cert.ReferenceIdeal.S_ .f32 0x00000000#32) Cert.ReferenceIdeal.Gen.reducesTo_S4x8192x1024_S8192x1024_d0 Cert.ReferenceIdeal.Gen.h_S_

/-- It is at each element the sum of the four blocks there. -/
theorem ref_apply (w : Cert.ReferenceIdeal.S32768x1024.Idx → EReal) (i : S8192x1024.Idx) :
    (refOut w : S8192x1024.Idx → EReal) i = ringSum (blocks w) i := by
  have hr : Cert.ReferenceIdeal.S4x8192x1024.Reduces [0] Cert.ReferenceIdeal.S8192x1024 := by decide
  have hz : (constant Cert.ReferenceIdeal.S_ .f32 0x00000000#32 : FVec Ideal Cert.ReferenceIdeal.S_ .f32)
      (Shape.Idx.first Cert.ReferenceIdeal.Gen.h_S_) = (0 : EReal) := Ideal.ofBits_zero_f32
  have hb (y : Fin 4) : shapeCast Cert.ReferenceIdeal.S4x8192x1024 w Cert.ReferenceIdeal.Gen.shapeCasts_S32768x1024_S4x8192x1024 (hr.lift i y)
      = blocks w y i := by
    refine congrArg w (Shape.reshapeEquiv_eq_of_rowMajor _ ?_)
    rw [Shape.rowMajor_val_two, Shape.rowMajor_val_three]
    show (y.val * 8192 + (i 0).val) * 1024 + (i 1).val = (y.val * 8192 + (i 0).val) * 1024 + (i 1).val
    rfl
  show Ideal.hostReduceAdd _ _ _ i = _
  rw [Ideal.hostReduceAdd_single _ hr, hz, zero_add]
  show (∑ y : Fin 4, shapeCast Cert.ReferenceIdeal.S4x8192x1024 w Cert.ReferenceIdeal.Gen.shapeCasts_S32768x1024_S4x8192x1024 (hr.lift i y)) = _
  rw [Fin.sum_univ_four, hb, hb, hb, hb]
  rfl

/-- The equation: from memories where each device holds its block of the whole array `w`, a result whose chunks are the
    finished ones is the reference's result of `w`. -/
theorem good_eq (m : (ℓ : Loc nD τ sig) → Buf (Elt Ideal) ℓ) (w : Cert.ReferenceIdeal.S32768x1024.Idx → EReal)
    (hm : ∀ c : Dev nD, m ((c : Thread nD τ).loc main_arg0)
      = Layout.blockN ⟨2, ![8192, 1024]⟩ ⟨2, ![32768, 1024]⟩ (Layout.meshBlock [2, 4, 4] ![[1], []] c) w)
    (c : Dev nD) (X : Buf (Elt Ideal) ((c : Thread nD τ).loc main_v1)) (hX : Good m c X) : X = refOut w := by
  funext i
  exact (good_apply m (blocks w) (fun d => (hm d).trans (part_eq d w)) c X hX i).trans (ref_apply w i).symm

end Cert.KernelIdeal.Hand

end
-- ==== Proof.lean ====
/-
# The certificate's proof

The run of the kernel (Proof/Run.lean in the extended reals, Proof/KRun.lean at bit patterns: the same text) gives the frames; with
the value of its result (Proof/Value.lean) and the reference's run it gives the value claim. The idealization rewrote nothing, so
that it preserves the kernel is trivial.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KRun
public import proofs.«01_k».proof.Proof.Value
public import Idealize.ShloMosaic.Adequacy
public import Idealize.ShloMosaic.Init
public import Idealize.ShloMosaic.Lib.StableHlo.RunHlo

@[expose] public section

noncomputable section

namespace Cert.Proof

open Idealize.ShloMosaic Idealize.SL.Sem

/-- The kernel at bit patterns runs to its end, its argument unchanged and every counter back at zero: its run, read at the argument. -/
theorem kernel_frame : Cert.quiescent_Kernel (hKernel := Cert.Kernel.Gen.facts) := fun m g _ =>
  θ_run_mono (Cert.Kernel.Hand.run_main (F := Bits) m g) fun _ h => ⟨fun c => (h.1 c).1, h.2⟩

/-- The same of the kernel read in the extended reals. -/
theorem ideal_frame : Cert.quiescent_KernelIdeal (hKernelIdeal := Cert.KernelIdeal.Gen.facts) := fun m g _ =>
  θ_run_mono (Cert.KernelIdeal.Hand.run_main (F := Ideal) m g) fun _ h => ⟨fun c => (h.1 c).1, h.2⟩

/-- The reference runs to its end, its argument unchanged; it has no semaphore. -/
theorem reference_frame : Cert.quiescent_ReferenceIdeal (hReferenceIdeal := Cert.ReferenceIdeal.Gen.facts) := fun m g _ =>
  θ_run_mono (Cert.ReferenceIdeal.Value.run (F := Ideal) m g) fun r h =>
    ⟨fun c => (h c).2, Idealize.ShloMosaic.sem_eq_zero_of_no_sems (by decide) r.2⟩

/-- In the extended reals every device's result is the reference's: the reference's reshape and sum of the whole array, which each
    finished chunk of the kernel's result equals. -/
theorem value : Cert.algebraic_KernelIdeal_ReferenceIdeal (hKernelIdeal := Cert.KernelIdeal.Gen.facts)
    (hReferenceIdeal := Cert.ReferenceIdeal.Gen.facts) := fun m g m' g' _ hm =>
  ⟨Cert.KernelIdeal.Hand.refOut (m' (((0 : Dev Cert.ReferenceIdeal.nD).tc : Thread Cert.ReferenceIdeal.nD Cert.ReferenceIdeal.τ).loc Cert.ReferenceIdeal.main_arg0)),
    θ_run_mono (Cert.KernelIdeal.Hand.run_main (F := Ideal) m g) fun r h c =>
      ⟨Cert.KernelIdeal.Hand.good_eq m _ hm c _ (h.1 c).2, (h.1 c).1⟩,
    θ_run_mono (Cert.ReferenceIdeal.Value.run (F := Ideal) m' g') fun r h => ⟨(h 0).1, (h 0).2⟩⟩

/-- Everything the certificate claims. -/
theorem claim : Cert.Claim := ⟨Cert.Kernel.Gen.facts, Cert.KernelIdeal.Gen.facts, Cert.ReferenceIdeal.Gen.facts,
  kernel_frame, ideal_frame, reference_frame, trivial, value⟩

end Cert.Proof

end
